-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v5)) (v1 : (c : Dev Cert.KernelIdeal.nD) → Buf (Elt Ideal) ((c.tc : Thread Cert.KernelIdeal.nD Cert.KernelIdeal.τ).loc Cert.KernelIdeal.main_v7)) (v2 : (c : Dev Cert.KernelIdeal.nD) → Buf (Elt Ideal) ((c.tc : Thread Cert.KernelIdeal.nD Cert.KernelIdeal.τ).loc Cert.KernelIdeal.main_v9)) (v3 : (c : Dev Cert.KernelIdeal.nD) → Buf (Elt Ideal) ((c.tc : Thread Cert.KernelIdeal.nD Cert.KernelIdeal.τ).loc Cert.KernelIdeal.main_v10)) (v4 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_v7) = v1 c
          ∧ r.2.mem ((c.tc : Thread Cert.KernelIdeal.nD Cert.KernelIdeal.τ).loc Cert.KernelIdeal.main_v9) = v2 c
          ∧ r.2.mem ((c.tc : Thread Cert.KernelIdeal.nD Cert.KernelIdeal.τ).loc Cert.KernelIdeal.main_v10) = v3 c
          ∧ r.2.mem ((c.tc : Thread Cert.KernelIdeal.nD Cert.KernelIdeal.τ).loc Cert.KernelIdeal.main_v11) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v1) = v1 c
          ∧ r.2.mem ((c.tc : Thread Cert.ReferenceIdeal.nD Cert.ReferenceIdeal.τ).loc Cert.ReferenceIdeal.main_v2) = v2 c
          ∧ r.2.mem ((c.tc : Thread Cert.ReferenceIdeal.nD Cert.ReferenceIdeal.τ).loc Cert.ReferenceIdeal.main_v0_3) = v3 c
          ∧ r.2.mem ((c.tc : Thread Cert.ReferenceIdeal.nD Cert.ReferenceIdeal.τ).loc Cert.ReferenceIdeal.main_v0_4) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S6x1536x16384 : Shape := ⟨3, ![6, 1536, 16384]⟩
abbrev S16384x2x6144 : Shape := ⟨3, ![16384, 2, 6144]⟩
abbrev S2x6144 : Shape := ⟨2, ![2, 6144]⟩
abbrev S9216x16384 : Shape := ⟨2, ![9216, 16384]⟩
abbrev S2x16384x6144 : Shape := ⟨3, ![2, 16384, 6144]⟩
abbrev S9216x1 : Shape := ⟨2, ![9216, 1]⟩
abbrev S256x16384 : Shape := ⟨2, ![256, 16384]⟩
abbrev S256x1 : Shape := ⟨2, ![256, 1]⟩
abbrev S256 : Shape := ⟨1, ![256]⟩
abbrev S9216x6144 : Shape := ⟨2, ![9216, 6144]⟩
abbrev S8x128 : Shape := ⟨2, ![8, 128]⟩
abbrev S1024x16384 : Shape := ⟨2, ![1024, 16384]⟩
abbrev S1024x1 : Shape := ⟨2, ![1024, 1]⟩
abbrev S2x16384x256 : Shape := ⟨3, ![2, 16384, 256]⟩
abbrev S2x256 : Shape := ⟨2, ![2, 256]⟩
abbrev S1024x256 : Shape := ⟨2, ![1024, 256]⟩
abbrev S1x16384x256 : Shape := ⟨3, ![1, 16384, 256]⟩
abbrev S16384x256 : Shape := ⟨2, ![16384, 256]⟩
abbrev S1x256 : Shape := ⟨2, ![1, 256]⟩
abbrev S128x8x2x128 : Shape := ⟨4, ![128, 8, 2, 128]⟩
abbrev S2x8x128 : Shape := ⟨3, ![2, 8, 128]⟩
abbrev S512x6144 : Shape := ⟨2, ![512, 6144]⟩
abbrev S1x8x128 : Shape := ⟨3, ![1, 8, 128]⟩
abbrev S1 : Shape := ⟨1, ![1]⟩
abbrev S1x1x1 : Shape := ⟨3, ![1, 1, 1]⟩
abbrev S1x1 : Shape := ⟨2, ![1, 1]⟩
abbrev S6x1536x6144 : Shape := ⟨3, ![6, 1536, 6144]⟩
abbrev S_ : Shape := ⟨0, ![]⟩
abbrev S6x1536 : Shape := ⟨2, ![6, 1536]⟩

abbrev nBuf : Space → Nat
  | .hbm => 18
  | .vmem => 23
  | .smem => 0
  | _ => 0

abbrev bufTy : (tb : Table) → Fin (tcTables nBuf tb) → BufTy
  | .hbm, ⟨0, _⟩ => ⟨S6x1536x16384, .bf16⟩
  | .hbm, ⟨1, _⟩ => ⟨S16384x2x6144, .fp8e4m3⟩
  | .hbm, ⟨2, _⟩ => ⟨S2x6144, .f32⟩
  | .hbm, ⟨3, _⟩ => ⟨S9216x16384, .bf16⟩
  | .hbm, ⟨4, _⟩ => ⟨S2x16384x6144, .fp8e4m3⟩
  | .hbm, ⟨5, _⟩ => ⟨S9216x16384, .fp8e4m3⟩
  | .hbm, ⟨6, _⟩ => ⟨S9216x1, .f32⟩
  | .hbm, ⟨7, _⟩ => ⟨S9216x6144, .f32⟩
  | .hbm, ⟨8, _⟩ => ⟨S8x128, .f32⟩
  | .hbm, ⟨9, _⟩ => ⟨S9216x6144, .fp8e4m3⟩
  | .hbm, ⟨10, _⟩ => ⟨S2x8x128, .f32⟩
  | .hbm, ⟨11, _⟩ => ⟨S6x1536x6144, .fp8e4m3⟩
  | .hbm, ⟨12, _⟩ => ⟨S1x1x1, .f32⟩
  | .hbm, ⟨13, _⟩ => ⟨S_, .f32⟩
  | .hbm, ⟨14, _⟩ => ⟨S1x1x1, .f32⟩
  | .hbm, ⟨15, _⟩ => ⟨S_, .f32⟩
  | .hbm, ⟨16, _⟩ => ⟨S6x1536x16384, .fp8e4m3⟩
  | .hbm, ⟨17, _⟩ => ⟨S6x1536, .f32⟩
  | .local _ .vmem, ⟨0, _⟩ => ⟨S256x16384, .bf16⟩
  | .local _ .vmem, ⟨1, _⟩ => ⟨S256x16384, .bf16⟩
  | .local _ .vmem, ⟨2, _⟩ => ⟨S256x16384, .fp8e4m3⟩
  | .local _ .vmem, ⟨3, _⟩ => ⟨S256x16384, .fp8e4m3⟩
  | .local _ .vmem, ⟨4, _⟩ => ⟨S256x1, .f32⟩
  | .local _ .vmem, ⟨5, _⟩ => ⟨S256x1, .f32⟩
  | .local _ .vmem, ⟨6, _⟩ => ⟨S1024x16384, .fp8e4m3⟩
  | .local _ .vmem, ⟨7, _⟩ => ⟨S1024x16384, .fp8e4m3⟩
  | .local _ .vmem, ⟨8, _⟩ => ⟨S1024x1, .f32⟩
  | .local _ .vmem, ⟨9, _⟩ => ⟨S1024x1, .f32⟩
  | .local _ .vmem, ⟨10, _⟩ => ⟨S2x16384x256, .fp8e4m3⟩
  | .local _ .vmem, ⟨11, _⟩ => ⟨S2x16384x256, .fp8e4m3⟩
  | .local _ .vmem, ⟨12, _⟩ => ⟨S2x256, .f32⟩
  | .local _ .vmem, ⟨13, _⟩ => ⟨S2x256, .f32⟩
  | .local _ .vmem, ⟨14, _⟩ => ⟨S1024x256, .f32⟩
  | .local _ .vmem, ⟨15, _⟩ => ⟨S1024x256, .f32⟩
  | .local _ .vmem, ⟨16, _⟩ => ⟨S8x128, .f32⟩
  | .local _ .vmem, ⟨17, _⟩ => ⟨S8x128, .f32⟩
  | .local _ .vmem, ⟨18, _⟩ => ⟨S512x6144, .f32⟩
  | .local _ .vmem, ⟨19, _⟩ => ⟨S512x6144, .f32⟩
  | .local _ .vmem, ⟨20, _⟩ => ⟨S512x6144, .fp8e4m3⟩
  | .local _ .vmem, ⟨21, _⟩ => ⟨S512x6144, .fp8e4m3⟩
  | .local _ .vmem, ⟨22, _⟩ => ⟨S2x8x128, .f32⟩
  | _, _ => ⟨S6x1536x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v3_0 : Ref sig .tc := ⟨.hbm, 7, rfl⟩
abbrev main_v3_1 : Ref sig .tc := ⟨.hbm, 8, rfl⟩
abbrev main_v4_0 : Ref sig .tc := ⟨.hbm, 9, rfl⟩
abbrev main_v4_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc1_stg5_0 : Ref sig .tc := ⟨.vmem, 16, rfl⟩
abbrev cc2_stg0_0 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg2_1 : Ref sig .tc := ⟨.vmem, 21, rfl⟩
abbrev cc2_stg3_0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem4_1 : DmaSem sig := 15
abbrev cc1_sem5_0 : DmaSem sig := 16
abbrev cc2_sem0_0 : DmaSem sig := 17
abbrev cc2_sem1_0 : DmaSem sig := 18
abbrev cc2_sem1_1 : DmaSem sig := 19
abbrev cc2_sem2_0 : DmaSem sig := 20
abbrev cc2_sem2_1 : DmaSem sig := 21
abbrev cc2_sem3_0 : DmaSem sig := 22

abbrev nD : Nat := 1
abbrev τ : Topo := Topo.v7x

variable {F : FTy → Type} [FloatOps F]

abbrev grid0 : Pipeline.Grid := ⟨1, ![36], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x16384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x16384 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![9, 24], ![false, false]⟩

def k1_cond1 (i : grid1.Coords) : BitVec 1 :=
  let arg0 : BitVec 32 := BitVec.ofNat 32 (i 0).val
  let c0_i32 : BitVec 32 := 0#32
  let v27 : BitVec 1 := Scalar.cmpi .eq arg0 c0_i32
  let arg1 : BitVec 32 := BitVec.ofNat 32 (i 1).val
  let c0_i32_16 : BitVec 32 := 0#32
  let v28 : BitVec 1 := Scalar.cmpi .eq arg1 c0_i32_16
  let v29 : BitVec 1 := Scalar.andi v27 v28
  let v30 : BitVec 32 := Scalar.extui v29
  let c0_i32_17 : BitVec 32 := 0#32
  let v31 : BitVec 1 := Scalar.cmpi .ne v30 c0_i32_17
  v31

def k1_cond2 (i : grid1.Coords) : BitVec 1 :=
  let arg0 : BitVec 32 := BitVec.ofNat 32 (i 0).val
  let c0_i32 : BitVec 32 := 0#32
  let v27 : BitVec 1 := Scalar.cmpi .eq arg0 c0_i32
  let arg1 : BitVec 32 := BitVec.ofNat 32 (i 1).val
  let c0_i32_16 : BitVec 32 := 0#32
  let v28 : BitVec 1 := Scalar.cmpi .eq arg1 c0_i32_16
  let v29 : BitVec 1 := Scalar.andi v27 v28
  let v_true : BitVec 1 := 1#1
  let v32 : BitVec 1 := Scalar.xori v29 v_true
  let v33 : BitVec 32 := Scalar.extui v32
  let c0_i32_18 : BitVec 32 := 0#32
  let v34 : BitVec 1 := Scalar.cmpi .ne v33 c0_i32_18
  v34

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S1024x16384 .fp8e4m3 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1024x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S2x16384x256 .fp8e4m3 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S2x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 2 → Memref sig .tc .vmem S1024x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 1 → Memref sig .tc .vmem S8x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev grid2 : Pipeline.Grid := ⟨1, ![18], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage2_0 : Fin 1 → Memref sig .tc .vmem S8x128 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 2 → Memref sig .tc .vmem S512x6144 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S512x6144 .fp8e4m3 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S2x8x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]
-- ==== ReferenceIdeal.lean ====
abbrev S6x1536x16384 : Shape := ⟨3, ![6, 1536, 16384]⟩
abbrev S16384x2x6144 : Shape := ⟨3, ![16384, 2, 6144]⟩
abbrev S2x6144 : Shape := ⟨2, ![2, 6144]⟩
abbrev S6x1536x6144 : Shape := ⟨3, ![6, 1536, 6144]⟩
abbrev S1x1x1 : Shape := ⟨3, ![1, 1, 1]⟩
abbrev S6x1536 : Shape := ⟨2, ![6, 1536]⟩
abbrev S6x1536x1 : Shape := ⟨3, ![6, 1536, 1]⟩
abbrev S6x1536x2x6144 : Shape := ⟨4, ![6, 1536, 2, 6144]⟩
abbrev S6x1536x1x1 : Shape := ⟨4, ![6, 1536, 1, 1]⟩
abbrev S1x1x2x6144 : Shape := ⟨4, ![1, 1, 2, 6144]⟩
abbrev S6x1536x1x6144 : Shape := ⟨4, ![6, 1536, 1, 6144]⟩
abbrev S1x6x1536x6144 : Shape := ⟨4, ![1, 6, 1536, 6144]⟩
abbrev S1 : Shape := ⟨1, ![1]⟩
abbrev S1x1x1x1 : Shape := ⟨4, ![1, 1, 1, 1]⟩
abbrev S_ : Shape := ⟨0, ![]⟩

abbrev nBuf : Space → Nat
  | .hbm => 10
  | .vmem => 8
  | .smem => 0
  | _ => 0

abbrev bufTy : (tb : Table) → Fin (tcTables nBuf tb) → BufTy
  | .hbm, ⟨0, _⟩ => ⟨S6x1536x16384, .bf16⟩
  | .hbm, ⟨1, _⟩ => ⟨S16384x2x6144, .fp8e4m3⟩
  | .hbm, ⟨2, _⟩ => ⟨S2x6144, .f32⟩
  | .hbm, ⟨3, _⟩ => ⟨S6x1536x6144, .fp8e4m3⟩
  | .hbm, ⟨4, _⟩ => ⟨S1x1x1, .f32⟩
  | .hbm, ⟨5, _⟩ => ⟨S1x1x1, .f32⟩
  | .hbm, ⟨6, _⟩ => ⟨S6x1536x16384, .fp8e4m3⟩
  | .hbm, ⟨7, _⟩ => ⟨S6x1536, .f32⟩
  | .hbm, ⟨8, _⟩ => ⟨S_, .f32⟩
  | .hbm, ⟨9, _⟩ => ⟨S_, .f32⟩
  | .local _ .vmem, ⟨0, _⟩ => ⟨S6x1536x16384, .bf16⟩
  | .local _ .vmem, ⟨1, _⟩ => ⟨S16384x2x6144, .fp8e4m3⟩
  | .local _ .vmem, ⟨2, _⟩ => ⟨S2x6144, .f32⟩
  | .local _ .vmem, ⟨3, _⟩ => ⟨S6x1536x6144, .fp8e4m3⟩
  | .local _ .vmem, ⟨4, _⟩ => ⟨S1x1x1, .f32⟩
  | .local _ .vmem, ⟨5, _⟩ => ⟨S1x1x1, .f32⟩
  | .local _ .vmem, ⟨6, _⟩ => ⟨S6x1536x16384, .fp8e4m3⟩
  | .local _ .vmem, ⟨7, _⟩ => ⟨S6x1536, .f32⟩
  | _, _ => ⟨S6x1536x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev main_v0_4 : Ref sig .tc := ⟨.hbm, 7, rfl⟩
abbrev main_v1 : Ref sig .tc := ⟨.hbm, 8, rfl⟩
abbrev main_v2 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S6x1536x16384 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16384x2x6144 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x6144 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S6x1536x6144 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S6x1536x16384 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S6x1536 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Proof.KernelRegions.lean ====
/- The three pallas_calls of the kernel, one by one, at a parameter `V`: the TensorCore's buffer contents when the call
   starts. Per call: each window's block at a grid point, what the body leaves in each output's buffer, the body's
   triple, the proof data and the body obligation. Call 1's second output (the running maximum) is read back before it
   is rewritten, so its contents after a point are defined from those after the point before (`outsAt1`). -/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.Pipeline.TableIdle
public import Idealize.ShloMosaic.Lib.WordCmp

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
section Regions
-- the TensorCore's buffer contents when a region is entered: the parameter every region's half is stated at, which
-- the run instantiates per region
variable (V : (c : Dev nD) → (b : Ref sig .tc) → Buf (Elt F) ((c : Thread nD τ).loc b))

/-! # REGION 0 of @main: custom_call 0, `cc0_quant_x` (pipeline 0), at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_0 : Rect S256x16384 := Rect.unit (s := S256x16384) ![0, 0] S256x16384.size inb_S256x16384_S256x16384_0_0
abbrev r0_1 : Rect S256x1 := Rect.unit (s := S256x1) ![0, 0] S256x1.size inb_S256x1_S256x1_0_0

/-! ## What the body leaves in each output window's buffer -/

/-! ### Values of the body that the stores' payloads, spelt out, would write more than once

    Each is a vector the body binds (often a part call's result), stated over the input windows' blocks and
    numbered on from the skeleton's payload functions (`k0_pay9` …, after `k0_pay8`), so that
    `out0_W` and the values after it name it instead of spelling it out (`unfold_out out0_W` opens a canon
    with them, `unfold_payloads` opens them with the payloads); the comment after each is the printed function's
    name for the value (a count appended where that name is bound again). -/

def k0_pay9 (x0 : Vec F S256x16384 .bf16) : FVec F S256x1 .f32 :=
  k0_pay3 (View.ld x0 r0_0) -- `v5`
def k0_pay10 (x0 : Vec F S256x16384 .bf16) : FVec F S256x1 .f32 :=
  k0_pay4 (View.ld x0 r0_0) -- `v7`
def k0_pay11 (x0 : Vec F S256x16384 .bf16) : IVec S256x1 32 :=
  k0_pay5 (View.ld x0 r0_0) -- `v43`

/-- Window 1's staging buffer after the body, from the input windows' blocks: its 1 store as pieces, LAST
    FIRST (Lib/Pipeline/FrameBody.lean `View.canon`; the payloads are the skeleton's and the values stated above). -/
def out0_1 (x0 : Vec F S256x16384 .bf16) : Vec F S256x16384 .fp8e4m3 :=
  View.canon [⟨r0_0, k0_pay1 (k0_pay2 (View.ld x0 r0_0)) (k0_pay8 (k0_pay9 x0) (k0_pay10 x0) (k0_pay11 x0))⟩]

/-- Its stores tile the buffer (checked by evaluation), so they cover it. -/
theorem cover0_1 (p0 : Vec F S256x16384 .fp8e4m3) (y : S256x16384.Idx) :
    ∃ pc ∈ ([⟨r0_0, p0⟩] : List (View.Piece (Elt F) S256x16384 .fp8e4m3)), y ∈ pc.1.set :=
  View.cover_of_tiled [⟨r0_0, p0⟩] S256x16384.size (by rfl) y

/-- Window 2's staging buffer after the body, from the input windows' blocks: its 1 store as pieces, LAST
    FIRST (Lib/Pipeline/FrameBody.lean `View.canon`; the payloads are the skeleton's and the values stated above). -/
def out0_2 (x0 : Vec F S256x16384 .bf16) : Vec F S256x1 .f32 :=
  View.canon [⟨r0_1, k0_pay7 (k0_pay9 x0) (k0_pay10 x0) (k0_pay11 x0)⟩]

/-- Its stores tile the buffer (checked by evaluation), so they cover it. -/
theorem cover0_2 (p0 : Vec F S256x1 .f32) (y : S256x1.Idx) :
    ∃ pc ∈ ([⟨r0_1, p0⟩] : List (View.Piece (Elt F) S256x1 .f32)), y ∈ pc.1.set :=
  View.cover_of_tiled [⟨r0_1, p0⟩] S256x1.size (by rfl) y

/-! ## The body's triple -/

set_option maxHeartbeats 1000000 in
/-- The kernel body on whole staging memrefs, the inputs' at read contents `xW` and the outputs' at anything, runs to
    the continuation holding the inputs' as they were and each output's at `out0_W` of the inputs': the printed functions
    are their skeletons (`Gen.*_eq_skeleton`), which `sl_exec` runs (Lib/Exec.lean), through every part call. -/
theorem sound_kernel0 (c : Dev nD) (E : Set ℕ) (i : grid0.Coords) (arg1 : Memref sig .tc .vmem S256x16384 .bf16) (harg1 : arg1.IsWhole) (arg2 : Memref sig .tc .vmem S256x16384 .fp8e4m3) (harg2 : arg2.IsWhole) (arg3 : Memref sig .tc .vmem S256x1 .f32) (harg3 : arg3.IsWhole)
    (x0 : Vec F S256x16384 .bf16) (K : PUnit → sProp 𝕄) :
    iprop(owns (c : Thread nD τ) arg1 fullShare x0 ∗ (∃ d, owns (c : Thread nD τ) arg2 fullShare d) ∗ (∃ d, owns (c : Thread nD τ) arg3 fullShare d)
        ∗ (iprop(owns (c : Thread nD τ) arg1 fullShare x0 ∗ owns (c : Thread nD τ) arg2 fullShare (out0_1 x0) ∗ owns (c : Thread nD τ) arg3 fullShare (out0_2 x0)) -∗ K ⟨⟩))
      ⊢ wp frame (wpE (defs₀ (F := F)) Variants.none c none) E (cc0_quant_x i arg1 harg1 arg2 harg2 arg3 harg3) K := by
  simp only [cc0_quant_x_eq_skeleton]; unfold cc0_quant_x_skel
  simp only [k0_part1_eq_skeleton, k0_part2_eq_skeleton]
  unfold owns
  iintro ⟨⟨%f0, %hf0, H0⟩, ⟨%d1, %f1, -, H1⟩, ⟨%d2, %f2, -, H2⟩, Hk⟩
  subst hf0
  sl_exec
  sl_step
  iapply Hk
  isplitl [H0]
  · iexists f0; isplitr; · ipureintro; rfl
    iexact H0
  isplitl [H1]
  · iexists _; isplitr
    swap; · iexact H1
    ipureintro
    refine (View.read_writes_eq_canon _ _ _ (cover0_1 _)).trans ?_
    rfl
  iexists _; isplitr
  swap; · iexact H2
  ipureintro
  refine (View.read_writes_eq_canon _ _ _ (cover0_2 _)).trans ?_
  rfl

/-! ## The pipeline's proof data -/

/-- The proof data of pipeline 0 on core `c`: the arrays as the region finds them (`V`); after the body at
    point `t` each input's buffer at its block and each output's at `out0_W` of the input blocks; the invariant the
    class's (Lib/Pipeline/Frame.lean `ΦA`: the scoped rest and the generator register, untouched); nothing owed;
    full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
    | ⟨2, _⟩ => out0_2 (iblk0 V c 0 t)
  Φ _ := Pipeline.ΦA spec0 c
  q _ := fullShare
  owed _ := 0

/-- The proof data's arrays are the region-entry contents, by projecting the definition (`dsimp`): a region record cites
    this for its arrays rather than have Lean unfold `V`, the fold through @main up to the region's entry. -/
theorem A_eq0 (c : Dev nD) (w : Fin cfg0.W) : (dat0 V c).A w = V c (Pipeline.arrRef spec0 w) := by
  dsimp only [dat0]

/-- What the body leaves, window by window (the proof data's `match` reduced by `dsimp`, never `rfl`: Lib/Pipeline.lean `Dat`). -/
theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]
theorem after0_2 (c : Dev nD) (t : Fin cfg0.N) : (dat0 V c).after 2 t = out0_2 (iblk0 V c 0 t) := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d

/-! ## The body obligation, at a generic point -/

/-- What the body is called with at point `t` (Lib/Pipeline.lean `BodyObligation`'s precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks (`before0_W`), so `sound_kernel0` applies; the invariant and
    the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ (grid0.coords t) _ _ _ _ _ _ (iblk0 V c 0 t) _)
  isplitl [H0]; · iexact H0
  isplitl [H1]; · iexists _; iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

/-! # REGION 1 of @main: custom_call 1, `cc1_swiglu_matmul` (pipeline 1), at the entry contents `V` — class R -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch conditions -/

/-- The condition of the body's `scf.if` 0 (`k1_h1`), from the grid coordinates (the skeleton's scalar
    chain substituted). -/
abbrev cond1_0 (i : grid1.Coords) : Prop := k1_cond1 i = 1#1
/-- It holds at the first point only — by arithmetic of the point. -/
theorem hcond1_0 : ∀ t : Fin cfg1.N, cond1_0 (grid1.coords t) ↔ t.val % 216 = 0 :=
  (fun t => by
    have ht : t.val < 216 := Nat.lt_of_lt_of_eq t.isLt N_1
    have e0 : (grid1.coords t 0).val = t.val / 24 % 9 := Pipeline.Grid.coords_val t 0 (by decide) rfl
    have e1 : (grid1.coords t 1).val = t.val / 1 % 24 := Pipeline.Grid.coords_val t 1 (by decide) rfl
    simp only [cond1_0, k1_cond1, e0, e1]
    word_cmp
   : ∀ t : Fin grid1.N, cond1_0 (grid1.coords t) ↔ t.val % 216 = 0)

/-- The condition of the body's `scf.if` 1 (`k1_h2`), from the grid coordinates (the skeleton's scalar
    chain substituted). -/
abbrev cond1_1 (i : grid1.Coords) : Prop := k1_cond2 i = 1#1
/-- It holds at the points from point 1 on — decided over the grid. -/
theorem hcond1_1 : ∀ t : Fin cfg1.N, cond1_1 (grid1.coords t) ↔ 1 ≤ t.val :=
  (by decide +kernel : ∀ t : Fin grid1.N, cond1_1 (grid1.coords t) ↔ 1 ≤ t.val)

/-! ## Where the windows are idle (the printed configuration's table `Cfg.idle`) -/

/-- Window 0 is never idle (an input). -/
theorem liveAt1_0 : ∀ t : Fin cfg1.N, cfg1.idle 0 (grid1.coords t) = false := fun _ => rfl
/-- Window 1 is never idle (an input). -/
theorem liveAt1_1 : ∀ t : Fin cfg1.N, cfg1.idle 1 (grid1.coords t) = false := fun _ => rfl
/-- Window 2 is never idle (an input). -/
theorem liveAt1_2 : ∀ t : Fin cfg1.N, cfg1.idle 2 (grid1.coords t) = false := fun _ => rfl
/-- Window 3 is never idle (an input). -/
theorem liveAt1_3 : ∀ t : Fin cfg1.N, cfg1.idle 3 (grid1.coords t) = false := fun _ => rfl
/-- Window 4 is never idle (an output stored at every point, under no condition). -/
theorem liveAt1_4 : ∀ t : Fin cfg1.N, cfg1.idle 4 (grid1.coords t) = false := fun _ => rfl
/-- Whether output 5's buffer is FRESH at each position `1 ‥ N` — holds nothing the body stored since the region's entry or the
    last write-back (written back at the point before, or idle there and fresh before it) —, as a bitmask the classifier
    computed, bit `n` for position `n + 1`; position 0 is fresh. `freshTab1_5_step` checks it against the configuration's own
    step point by point and Lib/Pipeline/TableIdle.lean `Cfg.fresh_tab` makes it `Cfg.fresh` (`fresh1_5_eq`). -/
def freshTab1_5 : ℕ → Bool
  | 0 => true
  | n + 1 => (0x800000000000000000000000000000000000000000000000000000 : ℕ).testBit n
theorem freshTab1_5_step : ∀ t : Fin cfg1.N,
    freshTab1_5 (t.val + 1) = ((cfg1.win 5).flush t || (cfg1.idle 5 (cfg1.grid.coords t) && freshTab1_5 t.val)) := by decide +kernel
theorem fresh1_5_eq (t : Fin cfg1.N) : cfg1.fresh 5 t.val = freshTab1_5 t.val :=
  Pipeline.Cfg.fresh_tab cfg1 5 freshTab1_5 rfl freshTab1_5_step t.val (Nat.le_of_lt t.isLt)
/-- At the points of case A the printed configuration (`Cfg.idle`) calls output 5 live: the case stores into it. -/
theorem liveAt1_5_A : ∀ t : Fin cfg1.N, cond1_0 (grid1.coords t) → ¬cond1_1 (grid1.coords t) → cfg1.idle 5 (grid1.coords t) = false := by decide +kernel
/-- At the points of case B the printed configuration (`Cfg.idle`) calls output 5 live: the case stores into it. -/
theorem liveAt1_5_B : ∀ t : Fin cfg1.N, ¬cond1_0 (grid1.coords t) → cond1_1 (grid1.coords t) → cfg1.idle 5 (grid1.coords t) = false := by decide +kernel
/-- At the points of case B, which keeps output 5's prior contents (reads it before covering, or covers it in part), the
    window's buffer is not FRESH: something was stored into it since the region's entry or its last write-back, idle points
    between or not (Lib/Pipeline/TableIdle.lean `Cfg.fresh`, by the table `freshTab1_5`). -/
theorem notFresh1_5_B : ∀ t : Fin cfg1.N, ¬cond1_0 (grid1.coords t) → cond1_1 (grid1.coords t) → cfg1.fresh 5 t.val = false := by
  intro t; rw [fresh1_5_eq t]; revert t; decide +kernel

/-! ## The kernel body on any staging memrefs: a subtype the run finds -/

/-- One staging buffer of output window 4, through which its contents are stated (`View.read_writes_of_cover`: the
    choice does not matter). -/
abbrev VO1_4 : View sig .tc .vmem S1024x256 .f32 := (Memref.whole cc1_stg4_0 : Memref sig .tc .vmem S1024x256 .f32).view
/-- One staging buffer of output window 5, through which its contents are stated (`View.read_writes_of_cover`: the
    choice does not matter). -/
abbrev VO1_5 : View sig .tc .vmem S8x128 .f32 := (Memref.whole cc1_stg5_0 : Memref sig .tc .vmem S8x128 .f32).view
/-- Each window's current staging memref at point `t`, spelled as the pipeline passes it (`bodyAt1`), and its wholeness. -/
abbrev ms1_0 (t : Fin cfg1.N) : Memref sig .tc .vmem S1024x16384 .fp8e4m3 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x1 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S2x16384x256 .fp8e4m3 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S2x256 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1024x256 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S8x128 .f32 := win1_5.stage (cfg1.slots t 5)
abbrev hs1_5 (t : Fin cfg1.N) : (ms1_5 t).IsWhole := hstage1_5 ((cfg1.slots t 5).cast nbuf1_5)

set_option maxHeartbeats 1000000 in
/-- What the body's stores leave in each output's staging memref, as pieces (last first) IN CASE A (`scf.if` 0 taken, `scf.if` 1 not taken: points 0), WITH the
    proof that on whole staging memrefs — the inputs' at their contents, the other outputs' at
    anything, the body runs to the continuation holding the inputs' as they were,
    each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun1_A (c : Dev nD) (i : grid1.Coords) (arg2 : Memref sig .tc .vmem S1024x16384 .fp8e4m3) (harg2 : arg2.IsWhole) (arg3 : Memref sig .tc .vmem S1024x1 .f32) (harg3 : arg3.IsWhole) (arg4 : Memref sig .tc .vmem S2x16384x256 .fp8e4m3) (harg4 : arg4.IsWhole) (arg5 : Memref sig .tc .vmem S2x256 .f32) (harg5 : arg5.IsWhole) (arg6 : Memref sig .tc .vmem S1024x256 .f32) (harg6 : arg6.IsWhole) (arg7 : Memref sig .tc .vmem S8x128 .f32) (harg7 : arg7.IsWhole) (hc0 : cond1_0 i) (hc1 : ¬cond1_1 i)
    (x0 : Vec F S1024x16384 .fp8e4m3) (x1 : Vec F S1024x1 .f32) (x2 : Vec F S2x16384x256 .fp8e4m3) (x3 : Vec F S2x256 .f32) :
    Σ' (L4 : List (View.Piece (Elt F) S1024x256 .f32)), { L5 : List (View.Piece (Elt F) S8x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5)) -∗ K ⟨⟩))
          ⊢ wp frame (wpE (defs₀ (F := F)) Variants.none c none) E (cc1_swiglu_matmul i arg2 harg2 arg3 harg3 arg4 harg4 arg5 harg5 arg6 harg6 arg7 harg7) K } := by
  refine ⟨?_, ?_, fun E K => ?run⟩
  case run =>
    simp only [cc1_swiglu_matmul_eq_skeleton]; unfold cc1_swiglu_matmul_skel
    simp only [k1_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
    obtain rfl := harg2.eq_unread hf0; obtain rfl := harg3.eq_unread hf1; obtain rfl := harg4.eq_unread hf2; obtain rfl := harg5.eq_unread hf3
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact H5

/-- Case A's pieces for output 4 tile its block (1 store of `S1024x256`), so they cover it. -/
theorem cover1_A_4 (c : Dev nD) (i : grid1.Coords) (arg2 : Memref sig .tc .vmem S1024x16384 .fp8e4m3) (harg2 : arg2.IsWhole) (arg3 : Memref sig .tc .vmem S1024x1 .f32) (harg3 : arg3.IsWhole) (arg4 : Memref sig .tc .vmem S2x16384x256 .fp8e4m3) (harg4 : arg4.IsWhole) (arg5 : Memref sig .tc .vmem S2x256 .f32) (harg5 : arg5.IsWhole) (arg6 : Memref sig .tc .vmem S1024x256 .f32) (harg6 : arg6.IsWhole) (arg7 : Memref sig .tc .vmem S8x128 .f32) (harg7 : arg7.IsWhole) (hc0 : cond1_0 i) (hc1 : ¬cond1_1 i)
    (x0 : Vec F S1024x16384 .fp8e4m3) (x1 : Vec F S1024x1 .f32) (x2 : Vec F S2x16384x256 .fp8e4m3) (x3 : Vec F S2x256 .f32) (y : S1024x256.Idx) :
    ∃ pc ∈ (kernelRun1_A c i arg2 harg2 arg3 harg3 arg4 harg4 arg5 harg5 arg6 harg6 arg7 harg7 hc0 hc1 x0 x1 x2 x3).1, y ∈ pc.1.set :=
  View.cover_of_tiledL (kernelRun1_A c i arg2 harg2 arg3 harg3 arg4 harg4 arg5 harg5 arg6 harg6 arg7 harg7 hc0 hc1 x0 x1 x2 x3).1 S1024x256.size (by sl_kernel_rfl) y

/-- What case A leaves in output 4's staging buffer: its pieces read back over junk. -/
def out1_A_4 (c : Dev nD) (i : grid1.Coords) (arg2 : Memref sig .tc .vmem S1024x16384 .fp8e4m3) (harg2 : arg2.IsWhole) (arg3 : Memref sig .tc .vmem S1024x1 .f32) (harg3 : arg3.IsWhole) (arg4 : Memref sig .tc .vmem S2x16384x256 .fp8e4m3) (harg4 : arg4.IsWhole) (arg5 : Memref sig .tc .vmem S2x256 .f32) (harg5 : arg5.IsWhole) (arg6 : Memref sig .tc .vmem S1024x256 .f32) (harg6 : arg6.IsWhole) (arg7 : Memref sig .tc .vmem S8x128 .f32) (harg7 : arg7.IsWhole) (hc0 : cond1_0 i) (hc1 : ¬cond1_1 i)
    (x0 : Vec F S1024x16384 .fp8e4m3) (x1 : Vec F S1024x1 .f32) (x2 : Vec F S2x16384x256 .fp8e4m3) (x3 : Vec F S2x256 .f32) : Vec F S1024x256 .f32 :=
  VO1_4.read (Elt F) (VO1_4.writes (Elt F) VO1_4.junk (kernelRun1_A c i arg2 harg2 arg3 harg3 arg4 harg4 arg5 harg5 arg6 harg6 arg7 harg7 hc0 hc1 x0 x1 x2 x3).1)

/-- Case A's pieces for output 5 tile its block (1 store of `S8x128`), so they cover it. -/
theorem cover1_A_5 (c : Dev nD) (i : grid1.Coords) (arg2 : Memref sig .tc .vmem S1024x16384 .fp8e4m3) (harg2 : arg2.IsWhole) (arg3 : Memref sig .tc .vmem S1024x1 .f32) (harg3 : arg3.IsWhole) (arg4 : Memref sig .tc .vmem S2x16384x256 .fp8e4m3) (harg4 : arg4.IsWhole) (arg5 : Memref sig .tc .vmem S2x256 .f32) (harg5 : arg5.IsWhole) (arg6 : Memref sig .tc .vmem S1024x256 .f32) (harg6 : arg6.IsWhole) (arg7 : Memref sig .tc .vmem S8x128 .f32) (harg7 : arg7.IsWhole) (hc0 : cond1_0 i) (hc1 : ¬cond1_1 i)
    (x0 : Vec F S1024x16384 .fp8e4m3) (x1 : Vec F S1024x1 .f32) (x2 : Vec F S2x16384x256 .fp8e4m3) (x3 : Vec F S2x256 .f32) (y : S8x128.Idx) :
    ∃ pc ∈ (kernelRun1_A c i arg2 harg2 arg3 harg3 arg4 harg4 arg5 harg5 arg6 harg6 arg7 harg7 hc0 hc1 x0 x1 x2 x3).2.1, y ∈ pc.1.set :=
  View.cover_of_tiledL (kernelRun1_A c i arg2 harg2 arg3 harg3 arg4 harg4 arg5 harg5 arg6 harg6 arg7 harg7 hc0 hc1 x0 x1 x2 x3).2.1 S8x128.size (by sl_kernel_rfl) y

/-- What case A leaves in output 5's staging buffer: its pieces read back over junk. -/
def out1_A_5 (c : Dev nD) (i : grid1.Coords) (arg2 : Memref sig .tc .vmem S1024x16384 .fp8e4m3) (harg2 : arg2.IsWhole) (arg3 : Memref sig .tc .vmem S1024x1 .f32) (harg3 : arg3.IsWhole) (arg4 : Memref sig .tc .vmem S2x16384x256 .fp8e4m3) (harg4 : arg4.IsWhole) (arg5 : Memref sig .tc .vmem S2x256 .f32) (harg5 : arg5.IsWhole) (arg6 : Memref sig .tc .vmem S1024x256 .f32) (harg6 : arg6.IsWhole) (arg7 : Memref sig .tc .vmem S8x128 .f32) (harg7 : arg7.IsWhole) (hc0 : cond1_0 i) (hc1 : ¬cond1_1 i)
    (x0 : Vec F S1024x16384 .fp8e4m3) (x1 : Vec F S1024x1 .f32) (x2 : Vec F S2x16384x256 .fp8e4m3) (x3 : Vec F S2x256 .f32) : Vec F S8x128 .f32 :=
  VO1_5.read (Elt F) (VO1_5.writes (Elt F) VO1_5.junk (kernelRun1_A c i arg2 harg2 arg3 harg3 arg4 harg4 arg5 harg5 arg6 harg6 arg7 harg7 hc0 hc1 x0 x1 x2 x3).2.1)

set_option maxHeartbeats 1000000 in
/-- What the body's stores leave in each output's staging memref, as pieces (last first) IN CASE B (`scf.if` 0 not taken, `scf.if` 1 taken: points 1, 2, … 215: 215 of 216), WITH the
    proof that on whole staging memrefs — the inputs' at their contents, the outputs it reads before covering (5) at their running contents `xo·`, the other outputs' at
    anything, the body runs to the continuation holding the inputs' as they were,
    each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun1_B (c : Dev nD) (i : grid1.Coords) (arg2 : Memref sig .tc .vmem S1024x16384 .fp8e4m3) (harg2 : arg2.IsWhole) (arg3 : Memref sig .tc .vmem S1024x1 .f32) (harg3 : arg3.IsWhole) (arg4 : Memref sig .tc .vmem S2x16384x256 .fp8e4m3) (harg4 : arg4.IsWhole) (arg5 : Memref sig .tc .vmem S2x256 .f32) (harg5 : arg5.IsWhole) (arg6 : Memref sig .tc .vmem S1024x256 .f32) (harg6 : arg6.IsWhole) (arg7 : Memref sig .tc .vmem S8x128 .f32) (harg7 : arg7.IsWhole) (hc0 : ¬cond1_0 i) (hc1 : cond1_1 i)
    (x0 : Vec F S1024x16384 .fp8e4m3) (x1 : Vec F S1024x1 .f32) (x2 : Vec F S2x16384x256 .fp8e4m3) (x3 : Vec F S2x256 .f32) (xo5 : Vec F S8x128 .f32) :
    Σ' (L4 : List (View.Piece (Elt F) S1024x256 .f32)), { L5 : List (View.Piece (Elt F) S8x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xo5
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5)) -∗ K ⟨⟩))
          ⊢ wp frame (wpE (defs₀ (F := F)) Variants.none c none) E (cc1_swiglu_matmul i arg2 harg2 arg3 harg3 arg4 harg4 arg5 harg5 arg6 harg6 arg7 harg7) K } := by
  refine ⟨?_, ?_, fun E K => ?run⟩
  case run =>
    simp only [cc1_swiglu_matmul_eq_skeleton]; unfold cc1_swiglu_matmul_skel
    simp only [k1_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, Hk⟩
    obtain rfl := harg2.eq_unread hf0; obtain rfl := harg3.eq_unread hf1; obtain rfl := harg4.eq_unread hf2; obtain rfl := harg5.eq_unread hf3; obtain rfl := harg7.eq_unread hf5
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact H5

/-- Case B's pieces for output 4 tile its block (1 store of `S1024x256`), so they cover it. -/
theorem cover1_B_4 (c : Dev nD) (i : grid1.Coords) (arg2 : Memref sig .tc .vmem S1024x16384 .fp8e4m3) (harg2 : arg2.IsWhole) (arg3 : Memref sig .tc .vmem S1024x1 .f32) (harg3 : arg3.IsWhole) (arg4 : Memref sig .tc .vmem S2x16384x256 .fp8e4m3) (harg4 : arg4.IsWhole) (arg5 : Memref sig .tc .vmem S2x256 .f32) (harg5 : arg5.IsWhole) (arg6 : Memref sig .tc .vmem S1024x256 .f32) (harg6 : arg6.IsWhole) (arg7 : Memref sig .tc .vmem S8x128 .f32) (harg7 : arg7.IsWhole) (hc0 : ¬cond1_0 i) (hc1 : cond1_1 i)
    (x0 : Vec F S1024x16384 .fp8e4m3) (x1 : Vec F S1024x1 .f32) (x2 : Vec F S2x16384x256 .fp8e4m3) (x3 : Vec F S2x256 .f32) (xo5 : Vec F S8x128 .f32) (y : S1024x256.Idx) :
    ∃ pc ∈ (kernelRun1_B c i arg2 harg2 arg3 harg3 arg4 harg4 arg5 harg5 arg6 harg6 arg7 harg7 hc0 hc1 x0 x1 x2 x3 xo5).1, y ∈ pc.1.set :=
  View.cover_of_tiledL (kernelRun1_B c i arg2 harg2 arg3 harg3 arg4 harg4 arg5 harg5 arg6 harg6 arg7 harg7 hc0 hc1 x0 x1 x2 x3 xo5).1 S1024x256.size (by sl_kernel_rfl) y

/-- What case B leaves in output 4's staging buffer: its pieces read back over junk. -/
def out1_B_4 (c : Dev nD) (i : grid1.Coords) (arg2 : Memref sig .tc .vmem S1024x16384 .fp8e4m3) (harg2 : arg2.IsWhole) (arg3 : Memref sig .tc .vmem S1024x1 .f32) (harg3 : arg3.IsWhole) (arg4 : Memref sig .tc .vmem S2x16384x256 .fp8e4m3) (harg4 : arg4.IsWhole) (arg5 : Memref sig .tc .vmem S2x256 .f32) (harg5 : arg5.IsWhole) (arg6 : Memref sig .tc .vmem S1024x256 .f32) (harg6 : arg6.IsWhole) (arg7 : Memref sig .tc .vmem S8x128 .f32) (harg7 : arg7.IsWhole) (hc0 : ¬cond1_0 i) (hc1 : cond1_1 i)
    (x0 : Vec F S1024x16384 .fp8e4m3) (x1 : Vec F S1024x1 .f32) (x2 : Vec F S2x16384x256 .fp8e4m3) (x3 : Vec F S2x256 .f32) (xo5 : Vec F S8x128 .f32) : Vec F S1024x256 .f32 :=
  VO1_4.read (Elt F) (VO1_4.writes (Elt F) VO1_4.junk (kernelRun1_B c i arg2 harg2 arg3 harg3 arg4 harg4 arg5 harg5 arg6 harg6 arg7 harg7 hc0 hc1 x0 x1 x2 x3 xo5).1)

/-- Case B's pieces for output 5 tile its block (1 store of `S8x128`), so they cover it. -/
theorem cover1_B_5 (c : Dev nD) (i : grid1.Coords) (arg2 : Memref sig .tc .vmem S1024x16384 .fp8e4m3) (harg2 : arg2.IsWhole) (arg3 : Memref sig .tc .vmem S1024x1 .f32) (harg3 : arg3.IsWhole) (arg4 : Memref sig .tc .vmem S2x16384x256 .fp8e4m3) (harg4 : arg4.IsWhole) (arg5 : Memref sig .tc .vmem S2x256 .f32) (harg5 : arg5.IsWhole) (arg6 : Memref sig .tc .vmem S1024x256 .f32) (harg6 : arg6.IsWhole) (arg7 : Memref sig .tc .vmem S8x128 .f32) (harg7 : arg7.IsWhole) (hc0 : ¬cond1_0 i) (hc1 : cond1_1 i)
    (x0 : Vec F S1024x16384 .fp8e4m3) (x1 : Vec F S1024x1 .f32) (x2 : Vec F S2x16384x256 .fp8e4m3) (x3 : Vec F S2x256 .f32) (xo5 : Vec F S8x128 .f32) (y : S8x128.Idx) :
    ∃ pc ∈ (kernelRun1_B c i arg2 harg2 arg3 harg3 arg4 harg4 arg5 harg5 arg6 harg6 arg7 harg7 hc0 hc1 x0 x1 x2 x3 xo5).2.1, y ∈ pc.1.set :=
  View.cover_of_tiledL (kernelRun1_B c i arg2 harg2 arg3 harg3 arg4 harg4 arg5 harg5 arg6 harg6 arg7 harg7 hc0 hc1 x0 x1 x2 x3 xo5).2.1 S8x128.size (by sl_kernel_rfl) y

/-- What case B leaves in output 5's staging buffer: its pieces read back over junk. -/
def out1_B_5 (c : Dev nD) (i : grid1.Coords) (arg2 : Memref sig .tc .vmem S1024x16384 .fp8e4m3) (harg2 : arg2.IsWhole) (arg3 : Memref sig .tc .vmem S1024x1 .f32) (harg3 : arg3.IsWhole) (arg4 : Memref sig .tc .vmem S2x16384x256 .fp8e4m3) (harg4 : arg4.IsWhole) (arg5 : Memref sig .tc .vmem S2x256 .f32) (harg5 : arg5.IsWhole) (arg6 : Memref sig .tc .vmem S1024x256 .f32) (harg6 : arg6.IsWhole) (arg7 : Memref sig .tc .vmem S8x128 .f32) (harg7 : arg7.IsWhole) (hc0 : ¬cond1_0 i) (hc1 : cond1_1 i)
    (x0 : Vec F S1024x16384 .fp8e4m3) (x1 : Vec F S1024x1 .f32) (x2 : Vec F S2x16384x256 .fp8e4m3) (x3 : Vec F S2x256 .f32) (xo5 : Vec F S8x128 .f32) : Vec F S8x128 .f32 :=
  VO1_5.read (Elt F) (VO1_5.writes (Elt F) VO1_5.junk (kernelRun1_B c i arg2 harg2 arg3 harg3 arg4 harg4 arg5 harg5 arg6 harg6 arg7 harg7 hc0 hc1 x0 x1 x2 x3 xo5).2.1)

/-! ## What the outputs hold after each point -/

/-- THE ACCUMULATION. What the outputs' staging buffers hold after the body at position `n` (a tuple, in window order):
    the case the closed forms select at `n`, run at the point's memrefs and input blocks, an output it reads before covering
    at what this leaves at `n - 1` (its buffer is not written back between: `before1_W_κ`); an output it leaves idle whose contents another case keeps stays
    what this leaves at `n - 1`, carried. An assignment of the conditions no point meets is no case (`False.elim`). -/
def outsAt1 (c : Dev nD) : (n : ℕ) → n < cfg1.N → Vec F S1024x256 .f32 × Vec F S8x128 .f32
  | 0, hn => (out1_A_4 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩), out1_A_5 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩))
  | n + 1, hn =>
    if h0 : (n + 1) % 216 = 0 then
      if h1 : 1 ≤ (n + 1) then
        False.elim (by have hN : n + 1 < 216 := lt_of_lt_of_eq hn (show cfg1.N = 216 from N_1); omega)
      else
        (out1_A_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩), out1_A_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩))
    else
      if h1 : 1 ≤ (n + 1) then
        (out1_B_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2, out1_B_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2)
      else
        False.elim (by have hN : n + 1 < 216 := lt_of_lt_of_eq hn (show cfg1.N = 216 from N_1); omega)

/-- `outsAt1` at a point of case A: that case's contents. -/
theorem outsAt1_A (c : Dev nD) (t : Fin cfg1.N) (h0 : t.val % 216 = 0) (h1 : ¬1 ≤ t.val) :
    outsAt1 V c t.val t.isLt = (out1_A_4 c (grid1.coords t) (ms1_0 t) (hs1_0 t) (ms1_1 t) (hs1_1 t) (ms1_2 t) (hs1_2 t) (ms1_3 t) (hs1_3 t) (ms1_4 t) (hs1_4 t) (ms1_5 t) (hs1_5 t) ((hcond1_0 t).mpr h0) (fun h => h1 ((hcond1_1 t).mp h)) (iblk1 V c 0 t) (iblk1 V c 1 t) (iblk1 V c 2 t) (iblk1 V c 3 t), out1_A_5 c (grid1.coords t) (ms1_0 t) (hs1_0 t) (ms1_1 t) (hs1_1 t) (ms1_2 t) (hs1_2 t) (ms1_3 t) (hs1_3 t) (ms1_4 t) (hs1_4 t) (ms1_5 t) (hs1_5 t) ((hcond1_0 t).mpr h0) (fun h => h1 ((hcond1_1 t).mp h)) (iblk1 V c 0 t) (iblk1 V c 1 t) (iblk1 V c 2 t) (iblk1 V c 3 t)) := by
  obtain ⟨n, hn⟩ := t
  cases n with
  | zero => exact rfl
  | succ n => exact (dif_pos h0).trans ((dif_neg h1).trans rfl)

/-- `outsAt1` at a point of case B: that case's contents, over what the point before left. -/
theorem outsAt1_B (c : Dev nD) (t : Fin cfg1.N) (h0 : ¬t.val % 216 = 0) (h1 : 1 ≤ t.val) :
    outsAt1 V c t.val t.isLt = (out1_B_4 c (grid1.coords t) (ms1_0 t) (hs1_0 t) (ms1_1 t) (hs1_1 t) (ms1_2 t) (hs1_2 t) (ms1_3 t) (hs1_3 t) (ms1_4 t) (hs1_4 t) (ms1_5 t) (hs1_5 t) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2, out1_B_5 c (grid1.coords t) (ms1_0 t) (hs1_0 t) (ms1_1 t) (hs1_1 t) (ms1_2 t) (hs1_2 t) (ms1_3 t) (hs1_3 t) (ms1_4 t) (hs1_4 t) (ms1_5 t) (hs1_5 t) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The pipeline's proof data -/

/-- The proof data of pipeline 1 on core `c`: the arrays as the region finds them (`V`); after the body at
    point `t` each input's buffer at its block and the outputs' at `outsAt1`; the invariant the class's
    (Lib/Pipeline/Frame.lean `ΦA`: the scoped rest and the generator register); nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
    | ⟨5, _⟩ => (outsAt1 V c t.val t.isLt).2
  Φ _ := Pipeline.ΦA spec1 c
  q _ := fullShare
  owed _ := 0

/-- The proof data's arrays are the region-entry contents, by projecting the definition (`dsimp`): a region record cites
    this for its arrays rather than have Lean unfold `V`, the fold through @main up to the region's entry. -/
theorem A_eq1 (c : Dev nD) (w : Fin cfg1.W) : (dat1 V c).A w = V c (Pipeline.arrRef spec1 w) := by
  dsimp only [dat1]

/-- What the body leaves, window by window (the proof data's `match` reduced by `dsimp`). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt).1 := by dsimp only [dat1]
theorem after1_5 (c : Dev nD) (t : Fin cfg1.N) : (dat1 V c).after 5 t = (outsAt1 V c t.val t.isLt).2 := by dsimp only [dat1]

/-- Each input's current staging buffer holds its block at every point, fetched there or not (`beforeK_W_of`). -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-- Output 5's contents CARRY through the points that leave it idle: at such a point, its buffer not fresh, the proof data's
    `after` is the point before's (the case there stores nothing into the window and its term says so; a case that stores
    into it is not idle there by `liveAt1_5_κ`) — the hypothesis of Lib/Pipeline/TableIdle.lean `Dat.before_out_traj`. -/
theorem hcarry1_5 (c : Dev nD) : ∀ (t : Fin cfg1.N) (_ : t.val ≠ 0), cfg1.idle 5 (grid1.coords t) = true → cfg1.fresh 5 t.val = false →
    (dat1 V c).after 5 t = (dat1 V c).after 5 ⟨t.val - 1, by omega⟩ := by
  intro t _ hi _
  have hN : t.val < 216 := lt_of_lt_of_eq t.isLt (show cfg1.N = 216 from N_1)
  rw [after1_5, after1_5]
  by_cases h0 : t.val % 216 = 0
  · by_cases h1 : 1 ≤ t.val
    · exfalso; omega
    · rw [liveAt1_5_A t ((hcond1_0 t).mpr h0) (fun h => h1 ((hcond1_1 t).mp h))] at hi
      exact absurd hi Bool.false_ne_true
  · by_cases h1 : 1 ≤ t.val
    · rw [liveAt1_5_B t (fun h => h0 ((hcond1_0 t).mp h)) ((hcond1_1 t).mpr h1)] at hi
      exact absurd hi Bool.false_ne_true
    · exfalso; omega
/-- At a point of case B output 5's current staging buffer holds what the point before left: the buffer is not fresh
    there (`notFresh1_5_B`: stored into since the region's entry or the last write-back, carried through the points that
    leave it idle by `hcarry1_5`; Lib/Pipeline/TableIdle.lean `Dat.before_out_traj`). -/
theorem before1_5_B (c : Dev nD) (t : Fin cfg1.N) (h0 : ¬t.val % 216 = 0) (h1 : 1 ≤ t.val) (d) :
    (dat1 V c).before 5 t d = (outsAt1 V c (t.val - 1) (Nat.lt_of_le_of_lt (Nat.sub_le _ _) t.isLt)).2 := by
  rw [Dat.before_out_traj _ 5 rfl (fun _ _ => rfl) (hcarry1_5 V c) t.val t rfl d,
    if_neg (by rw [notFresh1_5_B t (fun h => h0 ((hcond1_0 t).mp h)) ((hcond1_1 t).mpr h1)]; exact Bool.false_ne_true)]
  dsimp only [dat1]

/-! ## The body obligation, at a generic point -/

/-- What the body is called with at point `t` (Lib/Pipeline.lean `BodyObligation`'s precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

set_option maxHeartbeats 800000 in
/-- The body at any point: the inputs' memrefs hold their blocks (`before1_W`); the closed forms say which case the point is in (`by_cases`), an output the case reads before covering holds what the point before left (`before1_W_κ`); so the
    run applies; the invariant passes through unread; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl]
  have hN : t.val < 216 := lt_of_lt_of_eq t.isLt (show cfg1.N = 216 from N_1)
  by_cases h0 : t.val % 216 = 0
  · by_cases h1 : 1 ≤ t.val
    · exfalso; omega
    · rw [show (dat1 V c).leavesExact 0 t = owns (c : Thread nD τ) (ms1_0 t) fullShare ((dat1 V c).after 0 t) from by
      unfold Dat.leavesExact; rw [liveAt1_0 t], after1_0]
      rw [show (dat1 V c).leavesExact 1 t = owns (c : Thread nD τ) (ms1_1 t) fullShare ((dat1 V c).after 1 t) from by
      unfold Dat.leavesExact; rw [liveAt1_1 t], after1_1]
      rw [show (dat1 V c).leavesExact 2 t = owns (c : Thread nD τ) (ms1_2 t) fullShare ((dat1 V c).after 2 t) from by
      unfold Dat.leavesExact; rw [liveAt1_2 t], after1_2]
      rw [show (dat1 V c).leavesExact 3 t = owns (c : Thread nD τ) (ms1_3 t) fullShare ((dat1 V c).after 3 t) from by
      unfold Dat.leavesExact; rw [liveAt1_3 t], after1_3]
      rw [show (dat1 V c).leavesExact 4 t = owns (c : Thread nD τ) (ms1_4 t) fullShare ((dat1 V c).after 4 t) from by
      unfold Dat.leavesExact; rw [liveAt1_4 t], after1_4]
      rw [show (dat1 V c).leavesExact 5 t = owns (c : Thread nD τ) (ms1_5 t) fullShare ((dat1 V c).after 5 t) from by
      unfold Dat.leavesExact; rw [liveAt1_5_A t ((hcond1_0 t).mpr h0) (fun h => h1 ((hcond1_1 t).mp h))], after1_5]
      rw [outsAt1_A V c t h0 h1]
      unfold out1_A_4 out1_A_5; (try dsimp only)
      iintro ⟨HΦ, Ho, ⟨%d0, H0⟩, ⟨%d1, H1⟩, ⟨%d2, H2⟩, ⟨%d3, H3⟩, ⟨%d4, H4⟩, ⟨%d5, H5⟩⟩
      iapply ((kernelRun1_A c (grid1.coords t) _ _ _ _ _ _ _ _ _ _ _ _ ((hcond1_0 t).mpr h0) (fun h => h1 ((hcond1_1 t).mp h)) (iblk1 V c 0 t) (iblk1 V c 1 t) (iblk1 V c 2 t) (iblk1 V c 3 t)).2.2 Set.univ _)
      isplitl [H0]; · iexact H0
      isplitl [H1]; · iexact H1
      isplitl [H2]; · iexact H2
      isplitl [H3]; · iexact H3
      isplitl [H4]; · iexists _; iexact H4
      isplitl [H5]; · iexists _; iexact H5
      iintro ⟨H0, H1, H2, H3, ⟨%e4, H4⟩, ⟨%e5, H5⟩⟩
      isplitl [HΦ]; · iexact HΦ
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover1_A_4 c _ _ _ _ _ _ _ _ _ _ _ _ _ _ _ _ _ _ _)
      unfold owns; iexists _; isplitr
      swap; · iexact H5
      ipureintro; exact View.read_writes_of_cover _ _ _ _ _ (cover1_A_5 c _ _ _ _ _ _ _ _ _ _ _ _ _ _ _ _ _ _ _)
  · by_cases h1 : 1 ≤ t.val
    · rw [show (dat1 V c).leavesExact 0 t = owns (c : Thread nD τ) (ms1_0 t) fullShare ((dat1 V c).after 0 t) from by
      unfold Dat.leavesExact; rw [liveAt1_0 t], after1_0]
      rw [show (dat1 V c).leavesExact 1 t = owns (c : Thread nD τ) (ms1_1 t) fullShare ((dat1 V c).after 1 t) from by
      unfold Dat.leavesExact; rw [liveAt1_1 t], after1_1]
      rw [show (dat1 V c).leavesExact 2 t = owns (c : Thread nD τ) (ms1_2 t) fullShare ((dat1 V c).after 2 t) from by
      unfold Dat.leavesExact; rw [liveAt1_2 t], after1_2]
      rw [show (dat1 V c).leavesExact 3 t = owns (c : Thread nD τ) (ms1_3 t) fullShare ((dat1 V c).after 3 t) from by
      unfold Dat.leavesExact; rw [liveAt1_3 t], after1_3]
      rw [show (dat1 V c).leavesExact 4 t = owns (c : Thread nD τ) (ms1_4 t) fullShare ((dat1 V c).after 4 t) from by
      unfold Dat.leavesExact; rw [liveAt1_4 t], after1_4]
      rw [show (dat1 V c).leavesExact 5 t = owns (c : Thread nD τ) (ms1_5 t) fullShare ((dat1 V c).after 5 t) from by
      unfold Dat.leavesExact; rw [liveAt1_5_B t (fun h => h0 ((hcond1_0 t).mp h)) ((hcond1_1 t).mpr h1)], after1_5]
      rw [outsAt1_B V c t h0 h1]
      simp only [before1_5_B V c t h0 h1]
      unfold out1_B_4 out1_B_5; (try dsimp only)
      iintro ⟨HΦ, Ho, ⟨%d0, H0⟩, ⟨%d1, H1⟩, ⟨%d2, H2⟩, ⟨%d3, H3⟩, ⟨%d4, H4⟩, ⟨%d5, H5⟩⟩
      iapply ((kernelRun1_B c (grid1.coords t) _ _ _ _ _ _ _ _ _ _ _ _ (fun h => h0 ((hcond1_0 t).mp h)) ((hcond1_1 t).mpr h1) (iblk1 V c 0 t) (iblk1 V c 1 t) (iblk1 V c 2 t) (iblk1 V c 3 t) _).2.2 Set.univ _)
      isplitl [H0]; · iexact H0
      isplitl [H1]; · iexact H1
      isplitl [H2]; · iexact H2
      isplitl [H3]; · iexact H3
      isplitl [H4]; · iexists _; iexact H4
      isplitl [H5]; · iexact H5
      iintro ⟨H0, H1, H2, H3, ⟨%e4, H4⟩, ⟨%e5, H5⟩⟩
      isplitl [HΦ]; · iexact HΦ
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover1_B_4 c _ _ _ _ _ _ _ _ _ _ _ _ _ _ _ _ _ _ _ _)
      unfold owns; iexists _; isplitr
      swap; · iexact H5
      ipureintro; exact View.read_writes_of_cover _ _ _ _ _ (cover1_B_5 c _ _ _ _ _ _ _ _ _ _ _ _ _ _ _ _ _ _ _ _)
    · exfalso; omega

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The library's body obligation, at every point: the body's triple restated (Lib/Pipeline/FrameBody.lean `triple_restated`). -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

/-! # REGION 2 of @main: custom_call 2, `cc2_quant_y` (pipeline 2), at the entry contents `V` -/

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses -/

abbrev r2_0 : Rect S8x128 := Rect.unit (s := S8x128) ![0, 0] S8x128.size inb_S8x128_S8x128_0_0
abbrev r2_1 : Rect S512x6144 := Rect.unit (s := S512x6144) ![0, 0] S512x6144.size inb_S512x6144_S512x6144_0_0
abbrev r2_2 : Rect S2x8x128 := Rect.unit (s := S2x8x128) ![0, 0, 0] S1x8x128.size inb_S2x8x128_S1x8x128_0_0_0
abbrev r2_3 : Rect S2x8x128 := Rect.unit (s := S2x8x128) ![1, 0, 0] S1x8x128.size inb_S2x8x128_S1x8x128_1_0_0

/-! ## What the body leaves in each output window's buffer -/

/-! ### Values of the body that the stores' payloads, spelt out, would write more than once

    Each is a vector the body binds (often a part call's result), stated over the input windows' blocks and
    numbered on from the skeleton's payload functions (`k2_pay13` …, after `k2_pay12`), so that
    `out2_W` and the values after it name it instead of spelling it out (`unfold_out out2_W` opens a canon
    with them, `unfold_payloads` opens them with the payloads); the comment after each is the printed function's
    name for the value (a count appended where that name is bound again). -/

def k2_pay13 (x0 : Vec F S8x128 .f32) (x1 : Vec F S512x6144 .f32) : FVec F S8x128 .f32 :=
  k2_pay5 (View.ld x0 r2_0) -- `v8`
def k2_pay14 (x0 : Vec F S8x128 .f32) (x1 : Vec F S512x6144 .f32) : FVec F S8x128 .f32 :=
  k2_pay6 (View.ld x0 r2_0) -- `v10`
def k2_pay15 (x0 : Vec F S8x128 .f32) (x1 : Vec F S512x6144 .f32) : IVec S8x128 32 :=
  k2_pay7 (View.ld x0 r2_0) -- `v39`
def k2_pay16 (x0 : Vec F S8x128 .f32) (x1 : Vec F S512x6144 .f32) : IVec S8x128 32 :=
  k2_pay8 (View.ld x0 r2_0) -- `v41`
def k2_pay17 (x0 : Vec F S8x128 .f32) (x1 : Vec F S512x6144 .f32) : IVec S8x128 32 :=
  k2_pay9 (View.ld x0 r2_0) -- `v43`

/-- Window 2's staging buffer after the body, from the input windows' blocks: its 1 store as pieces, LAST
    FIRST (Lib/Pipeline/FrameBody.lean `View.canon`; the payloads are the skeleton's and the values stated above). -/
def out2_2 (x0 : Vec F S8x128 .f32) (x1 : Vec F S512x6144 .f32) : Vec F S512x6144 .fp8e4m3 :=
  View.canon [⟨r2_1, k2_pay1 (k2_pay12 (k2_pay13 x0 x1) (k2_pay14 x0 x1) (k2_pay15 x0 x1) (k2_pay16 x0 x1) (k2_pay17 x0 x1)) (View.ld x1 r2_1)⟩]

/-- Its stores tile the buffer (checked by evaluation), so they cover it. -/
theorem cover2_2 (p0 : Vec F S512x6144 .fp8e4m3) (y : S512x6144.Idx) :
    ∃ pc ∈ ([⟨r2_1, p0⟩] : List (View.Piece (Elt F) S512x6144 .fp8e4m3)), y ∈ pc.1.set :=
  View.cover_of_tiled [⟨r2_1, p0⟩] S512x6144.size (by rfl) y

/-- Window 3's staging buffer after the body, from the input windows' blocks: its 2 stores as pieces, LAST
    FIRST (Lib/Pipeline/FrameBody.lean `View.canon`; the payloads are the skeleton's and the values stated above). -/
def out2_3 (x0 : Vec F S8x128 .f32) (x1 : Vec F S512x6144 .f32) : Vec F S2x8x128 .f32 :=
  View.canon [⟨r2_3, k2_pay3 (k2_pay4 (View.ld x0 r2_0))⟩,
    ⟨r2_2, k2_pay2 (k2_pay11 (k2_pay13 x0 x1) (k2_pay14 x0 x1) (k2_pay15 x0 x1) (k2_pay16 x0 x1) (k2_pay17 x0 x1))⟩]

/-- Its stores tile the buffer (checked by evaluation), so they cover it. -/
theorem cover2_3 (p0 : Vec F S1x8x128 .f32) (p1 : Vec F S1x8x128 .f32) (y : S2x8x128.Idx) :
    ∃ pc ∈ ([⟨r2_3, p0⟩, ⟨r2_2, p1⟩] : List (View.Piece (Elt F) S2x8x128 .f32)), y ∈ pc.1.set :=
  View.cover_of_tiled [⟨r2_3, p0⟩, ⟨r2_2, p1⟩] S1x8x128.size (by rfl) y

/-! ## The body's triple -/

set_option maxHeartbeats 1000000 in
/-- The kernel body on whole staging memrefs, the inputs' at read contents `xW` and the outputs' at anything, runs to
    the continuation holding the inputs' as they were and each output's at `out2_W` of the inputs': the printed functions
    are their skeletons (`Gen.*_eq_skeleton`), which `sl_exec` runs (Lib/Exec.lean), through every part call. -/
theorem sound_kernel2 (c : Dev nD) (E : Set ℕ) (i : grid2.Coords) (arg1 : Memref sig .tc .vmem S8x128 .f32) (harg1 : arg1.IsWhole) (arg2 : Memref sig .tc .vmem S512x6144 .f32) (harg2 : arg2.IsWhole) (arg3 : Memref sig .tc .vmem S512x6144 .fp8e4m3) (harg3 : arg3.IsWhole) (arg4 : Memref sig .tc .vmem S2x8x128 .f32) (harg4 : arg4.IsWhole)
    (x0 : Vec F S8x128 .f32) (x1 : Vec F S512x6144 .f32) (K : PUnit → sProp 𝕄) :
    iprop(owns (c : Thread nD τ) arg1 fullShare x0 ∗ owns (c : Thread nD τ) arg2 fullShare x1 ∗ (∃ d, owns (c : Thread nD τ) arg3 fullShare d) ∗ (∃ d, owns (c : Thread nD τ) arg4 fullShare d)
        ∗ (iprop(owns (c : Thread nD τ) arg1 fullShare x0 ∗ owns (c : Thread nD τ) arg2 fullShare x1 ∗ owns (c : Thread nD τ) arg3 fullShare (out2_2 x0 x1) ∗ owns (c : Thread nD τ) arg4 fullShare (out2_3 x0 x1)) -∗ K ⟨⟩))
      ⊢ wp frame (wpE (defs₀ (F := F)) Variants.none c none) E (cc2_quant_y i arg1 harg1 arg2 harg2 arg3 harg3 arg4 harg4) K := by
  simp only [cc2_quant_y_eq_skeleton]; unfold cc2_quant_y_skel
  simp only [k2_part1_eq_skeleton, k2_part2_eq_skeleton]
  unfold owns
  iintro ⟨⟨%f0, %hf0, H0⟩, ⟨%f1, %hf1, H1⟩, ⟨%d2, %f2, -, H2⟩, ⟨%d3, %f3, -, H3⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    refine (View.read_writes_eq_canon _ _ _ (cover2_2 _)).trans ?_
    rfl
  iexists _; isplitr
  swap; · iexact H3
  ipureintro
  refine (View.read_writes_eq_canon _ _ _ (cover2_3 _ _)).trans ?_
  rfl

/-! ## The pipeline's proof data -/

/-- The proof data of pipeline 2 on core `c`: the arrays as the region finds them (`V`); after the body at
    point `t` each input's buffer at its block and each output's at `out2_W` of the input blocks; the invariant the
    class's (Lib/Pipeline/Frame.lean `ΦA`: the scoped rest and the generator register, untouched); nothing owed;
    full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
    | ⟨3, _⟩ => out2_3 (iblk2 V c 0 t) (iblk2 V c 1 t)
  Φ _ := Pipeline.ΦA spec2 c
  q _ := fullShare
  owed _ := 0

/-- The proof data's arrays are the region-entry contents, by projecting the definition (`dsimp`): a region record cites
    this for its arrays rather than have Lean unfold `V`, the fold through @main up to the region's entry. -/
theorem A_eq2 (c : Dev nD) (w : Fin cfg2.W) : (dat2 V c).A w = V c (Pipeline.arrRef spec2 w) := by
  dsimp only [dat2]

/-- What the body leaves, window by window (the proof data's `match` reduced by `dsimp`, never `rfl`: Lib/Pipeline.lean `Dat`). -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]
theorem after2_3 (c : Dev nD) (t : Fin cfg2.N) : (dat2 V c).after 3 t = out2_3 (iblk2 V c 0 t) (iblk2 V c 1 t) := by dsimp only [dat2]

/-- Each input's current staging buffer holds its block at every point, fetched there or not (`beforeK_W_of`). -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation, at a generic point -/

/-- What the body is called with at point `t` (Lib/Pipeline.lean `BodyObligation`'s precondition, the windows one by one), -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' memrefs hold their blocks (`before2_W`), so `sound_kernel2` applies; the invariant and
    the core's `owes` pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ (grid2.coords t) _ _ _ _ _ _ _ _ (iblk2 V c 0 t) (iblk2 V c 1 t) _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body table's row at point `t`'s slots is the body as `bodyAt2` spells it. -/
theorem defs₀_row2 (t : Fin cfg2.N) :
    defs₀ (F := F) .tc cfg2.body (cfg2.bodyArgs t (cfg2.slots t)) = bodyAt2 t := by
  unfold defs₀; rw [Defs.onTc_tc]

/-- The library's body obligation, at every point: the body's triple restated (Lib/Pipeline/FrameBody.lean `triple_restated`). -/
theorem body_obligation2 (c : Dev nD) : BodyObligation (dat2 (F := F) V c) (defs₀ (F := F)) Variants.none () Set.univ := fun t => by
  rw [bigSep_W2, bigSep_W2, defs₀_row2]
  exact triple_restated (sound_body2 V c t) rfl .rfl fun _ => .rfl

end Regions

end Cert.Kernel.Gen

end
-- ==== Proof.KernelRun.lean ====
/- @main of the kernel as host operations and three calls in order: the buffer contents at every boundary (`W0` the launch
   memory … `W5` the end), and the run: every execution ends with every unscoped buffer at `W5`. -/
module

public import proofs.«01_k».proof.Proof.Gen.Kernel.Launch
public import proofs.«01_k».proof.Proof.Gen.Kernel.Skeleton
public import proofs.«01_k».proof.Proof.Gen.Kernel.Points
public import proofs.«01_k».proof.Proof.KernelRegions
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.Pipeline.TableIdle
public import Idealize.ShloMosaic.Lib.WordCmp

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # THE RUN: @main's segments from the launch to the return (Lib/Pipeline/Regions.lean `θ_run_regions_kit`) -/

/-- @main's argument arrays, as TensorCore references: what the frame claim reads back. -/
abbrev argRefs : List (Ref sig .tc) := [main_arg0, main_arg1, main_arg2]

/-! ## The host stretches: none allocates a buffer, and each lists the references its operations write, in order,
    so that a reference absent from the list keeps its contents across the stretch (Lib/StableHlo/Run.lean
    `after_of_writes_sub`) -/

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_v0, main_v1]
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays (checked: each argument against each reference it writes). -/
theorem hostOps0_args : ∀ a ∈ argRefs, a ∉ hostOps0_W := ListAll.forall_mem_of_all_decide (by decide +kernel)

/-- No operation of `hostOps3` allocates a buffer. -/
theorem hostOps3_fresh : (hostOps3 : List (HloOp τ sig (Elt F))).Forall fun op => op.fresh = ∅ := by
  simp only [List.Forall]; repeat' constructor
/-- The reference each operation of `hostOps3` writes, in order. -/
abbrev hostOps3_W : List (Ref sig .tc) := [main_v5, main_v6, main_v7, main_v8, main_v9, main_v10, main_v11]
theorem hostOps3_writes : (hostOps3 : List (HloOp τ sig (Elt F))).Forall fun op => op.writes ⊆ (hostOps3_W.map (Proc.devRef (τ := τ) .tc)).toFinset :=
  StableHlo.forall_writes_sub_of_map rfl
/-- `hostOps3` writes none of the argument arrays (checked: each argument against each reference it writes). -/
theorem hostOps3_args : ∀ a ∈ argRefs, a ∉ hostOps3_W := ListAll.forall_mem_of_all_decide (by decide +kernel)

/-! ## The buffer contents at each segment boundary: a fold through @main, and what each item leaves unchanged -/

/-- Core `c`'s buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- After `hostOps0` (region 0's entry). -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, each output's write-backs
    folded: `Dat.arrAt … N`), every other buffer as entered (Lib/Pipeline/FrameSuffix.lean `withArrays`) (region 1's entry). -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A reference that is none of region 0's OUTPUT arrays keeps its entry contents across it: an input window's
    array is never written back (`Dat.arrAt_in`, `A_eq0`); any other buffer is left as is. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`): the two hypotheses of Lib/Pipeline/RegionsLoop.lean `unscopedBufs_of_arrays`. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At region 1's exit: its arrays at what the pipeline leaves (the inputs as entered, each output's write-backs
    folded: `Dat.arrAt … N`), every other buffer as entered (Lib/Pipeline/FrameSuffix.lean `withArrays`) (region 2's entry). -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- A reference that is none of region 1's OUTPUT arrays keeps its entry contents across it: an input window's
    array is never written back (`Dat.arrAt_in`, `A_eq1`); any other buffer is left as is. -/
theorem W3_of (c : Dev nD) (r : Ref sig .tc) (h : ∀ w : Fin cfg1.W, Pipeline.arrRef spec1 w = r → (cfg1.win w).isOut = false) :
    W3 m ρ c (Proc.devRef .tc r) = W2 m ρ c (Proc.devRef .tc r) := by
  by_cases hw : ∃ w : Fin cfg1.W, Pipeline.arrRef spec1 w = r
  · obtain ⟨w, rfl⟩ := hw
    exact (W3_arr m ρ c w).trans (((dat1 (V2 m ρ) c).arrAt_in w (h w rfl) _).trans (A_eq1 (V2 m ρ) c w))
  · exact W3_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
theorem W3_args (c : Dev nD) : ∀ a ∈ argRefs, W3 m ρ c (Proc.devRef .tc a) = m ((c : Thread nD τ).loc a) :=
  fun a ha => (W3_of m ρ c a (argsIn1 a ha)).trans (W2_args m ρ c a ha)
/-- The same read at the TensorCore's references (region 1's exit contents). -/
abbrev V3 : (c : Dev nD) → (b : Ref sig .tc) → Buf (Elt F) ((c : Thread nD τ).loc b) := fun c b => W3 m ρ c b
/-- At region 1's exit each of its arrays holds what the pipeline leaves (`hF1`) and every other buffer what it
    held at entry (`hrest1`): the two hypotheses of Lib/Pipeline/RegionsLoop.lean `unscopedBufs_of_arrays`. -/
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- At region 2's exit: its arrays at what the pipeline leaves (the inputs as entered, each output's write-backs
    folded: `Dat.arrAt … N`), every other buffer as entered (Lib/Pipeline/FrameSuffix.lean `withArrays`). -/
def W4 (c : Dev nD) : Valuation τ sig (Elt F) :=
  Pipeline.withArrays spec2 c (W3 m ρ c) fun w => (dat2 (V3 m ρ) c).arrAt w cfg2.N
theorem W4_arr (c : Dev nD) (w : Fin cfg2.W) :
    W4 m ρ c (Proc.devRef .tc (Pipeline.arrRef spec2 w)) = (dat2 (V3 m ρ) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m ρ c (Proc.devRef .tc b) = W3 m ρ c (Proc.devRef .tc b) := by
  unfold W4; exact Pipeline.withArrays_of_ne spec2 c _ _ b hb
/-- A reference that is none of region 2's OUTPUT arrays keeps its entry contents across it: an input window's
    array is never written back (`Dat.arrAt_in`, `A_eq2`); any other buffer is left as is. -/
theorem W4_of (c : Dev nD) (r : Ref sig .tc) (h : ∀ w : Fin cfg2.W, Pipeline.arrRef spec2 w = r → (cfg2.win w).isOut = false) :
    W4 m ρ c (Proc.devRef .tc r) = W3 m ρ c (Proc.devRef .tc r) := by
  by_cases hw : ∃ w : Fin cfg2.W, Pipeline.arrRef spec2 w = r
  · obtain ⟨w, rfl⟩ := hw
    exact (W4_arr m ρ c w).trans (((dat2 (V3 m ρ) c).arrAt_in w (h w rfl) _).trans (A_eq2 (V3 m ρ) c w))
  · exact W4_of_ne m ρ c r fun w e => hw ⟨w, e⟩
/-- Every argument among region 2's arrays is an input window's (checked: each argument against each window). -/
theorem argsIn2 : ∀ a ∈ argRefs, ∀ w : Fin cfg2.W, Pipeline.arrRef spec2 w = a → (cfg2.win w).isOut = false :=
  ListAll.forall_mem_of_all_decide (by decide +kernel)
theorem W4_args (c : Dev nD) : ∀ a ∈ argRefs, W4 m ρ c (Proc.devRef .tc a) = m ((c : Thread nD τ).loc a) :=
  fun a ha => (W4_of m ρ c a (argsIn2 a ha)).trans (W3_args m ρ c a ha)
/-- The same read at the TensorCore's references (region 2's exit contents). -/
abbrev V4 : (c : Dev nD) → (b : Ref sig .tc) → Buf (Elt F) ((c : Thread nD τ).loc b) := fun c b => W4 m ρ c b
/-- At region 2's exit each of its arrays holds what the pipeline leaves (`hF2`) and every other buffer what it
    held at entry (`hrest2`): the two hypotheses of Lib/Pipeline/RegionsLoop.lean `unscopedBufs_of_arrays`. -/
theorem hF2 (c : Dev nD) (w : Fin cfg2.W) : (dat2 (V3 m ρ) c).arrAt w cfg2.N = V4 m ρ c (Pipeline.arrRef spec2 w) :=
  (W4_arr m ρ c w).symm
theorem hrest2 (c : Dev nD) : ∀ b, b ∉ Finset.univ.image (Pipeline.arrRef spec2) → V4 m ρ c b = V3 m ρ c b :=
  fun b hb => W4_of_ne m ρ c b fun w e => hb (Finset.mem_image.mpr ⟨w, Finset.mem_univ _, e⟩)

/-- After `hostOps3`. -/
abbrev W5 : Dev nD → Valuation τ sig (Elt F) := fun c => StableHlo.after hostOps3 (W4 m ρ c)
/-- A reference `hostOps3` does not write keeps its contents across it. -/
theorem W5_of (c : Dev nD) (r : Ref sig .tc) (h : r ∉ hostOps3_W) : W5 m ρ c (Proc.devRef .tc r) = W4 m ρ c (Proc.devRef .tc r) :=
  StableHlo.after_of_writes_sub hostOps3 _ hostOps3_writes h
theorem W5_args (c : Dev nD) : ∀ a ∈ argRefs, W5 m ρ c (Proc.devRef .tc a) = m ((c : Thread nD τ).loc a) :=
  fun a ha => (W5_of m ρ c a (hostOps3_args a ha)).trans (W4_args m ρ c a ha)

/-! ### The arguments end as launched: no host stretch writes one and no region may change one (a region reads it
    through an input window or bypasses it) -/

theorem W5_main_arg0 (c : Dev nD) : W5 m ρ c (Proc.devRef .tc main_arg0) = m ((c : Thread nD τ).loc main_arg0) :=
  W5_args m ρ c main_arg0 (by decide)
theorem W5_main_arg1 (c : Dev nD) : W5 m ρ c (Proc.devRef .tc main_arg1) = m ((c : Thread nD τ).loc main_arg1) :=
  W5_args m ρ c main_arg1 (by decide)
theorem W5_main_arg2 (c : Dev nD) : W5 m ρ c (Proc.devRef .tc main_arg2) = m ((c : Thread nD τ).loc main_arg2) :=
  W5_args m ρ c main_arg2 (by decide)

/-! ## The proof data family and the thread state -/

/-- The prefetched tables' admissible contents: no pipeline has a table. -/
abbrev adm : (p : Fin 3) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
  | ⟨2, _⟩ => fun c => dat2 (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W5`, the generator register at some state. -/
abbrev Tₙ (c : Dev nD) : sProp 𝕄 := iprop(StableHlo.held (c : Thread nD τ) (Pipeline.ucRefs τ sig) (W5 m ρ c) ∗ ∃ r, prngReg c r)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W1`, left at `W2`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 1 (custom_call 1) over the thread state: entered from every unscoped buffer at `W2`, left at `W3`
    (what the next segment is entered from). Its arrays split out of the unscoped buffers
    (`arrays_of_unscopedBufs`) and put back at the exit contents (`unscopedBufs_of_arrays`); the generator register into the
    class invariant `ΦA` and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) (A_eq1 (V2 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 2 (custom_call 2) over the thread state: entered from every unscoped buffer at `W3`, left at `W4`
    (what the next segment is entered from). Its arrays split out of the unscoped buffers
    (`arrays_of_unscopedBufs`) and put back at the exit contents (`unscopedBufs_of_arrays`); the generator register into the
    class invariant `ΦA` and out; nothing owed; no semaphore of the kernel's own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V3 m ρ) c).loose
  hwaits := Pipeline.hwaits_of_owed_zero _ _ _ _ L lv 2 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec2 c (V3 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V3 m ρ c) (A_eq2 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V3 m ρ c) (V4 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's 5 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .region (reg2 m ρ),
    .host (hseg hostOps3 hostOps3_sub hostOps3_fresh (W4 m ρ)) ]
/-- @main IS the run of the segments: `Gen.main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

-- the launch theorem's implicit arguments are found by unifying its conclusion with this one
set_option backward.isDefEq.respectTransparency.types false in
/-- THE RUN: from any memory with zero counters every execution of @main terminates, nothing faulting, and every final
    state holds every unscoped buffer at the last boundary's contents `W5` and every semaphore counter at zero. -/
theorem run : θ_run defs (onTc (τ := τ) (main (F := F))) ⟨m, fun _ => 0, ρ⟩ (fun r => (∀ c : Dev nD,
      ∀ b ∈ Pipeline.ucRefs τ sig, r.2.mem (((c : Thread nD τ)).1, b) = W5 m ρ c b)
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz => ⟨h, funext fun g => hz g (.inr (no_unscoped g.2))⟩)

/-- THE FRAME: the argument arrays end as launched and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c =>
      ⟨(h.1 c _ (mem_uc main_arg0 (by decide))).trans (W5_main_arg0 m ρ c),
       (h.1 c _ (mem_uc main_arg1 (by decide))).trans (W5_main_arg1 m ρ c),
       (h.1 c _ (mem_uc main_arg2 (by decide))).trans (W5_main_arg2 m ρ c)⟩, h.2⟩) (run m ρ)

end Cert.Kernel.Gen

end
-- ==== Proof.KernelIdealRegions.lean ====
/- The three pallas_calls of the kernel, one by one, at a parameter `V`: the TensorCore's buffer contents when the call
   starts. Per call: each window's block at a grid point, what the body leaves in each output's buffer, the body's
   triple, the proof data and the body obligation. Call 1's second output (the running maximum) is read back before it
   is rewritten, so its contents after a point are defined from those after the point before (`outsAt1`). -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.Pipeline.TableIdle
public import Idealize.ShloMosaic.Lib.WordCmp

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
section Regions
-- the TensorCore's buffer contents when a region is entered: the parameter every region's half is stated at, which
-- the run instantiates per region
variable (V : (c : Dev nD) → (b : Ref sig .tc) → Buf (Elt F) ((c : Thread nD τ).loc b))

/-! # REGION 0 of @main: custom_call 0, `cc0_quant_x` (pipeline 0), at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_0 : Rect S256x16384 := Rect.unit (s := S256x16384) ![0, 0] S256x16384.size inb_S256x16384_S256x16384_0_0
abbrev r0_1 : Rect S256x1 := Rect.unit (s := S256x1) ![0, 0] S256x1.size inb_S256x1_S256x1_0_0

/-! ## What the body leaves in each output window's buffer -/

/-! ### Values of the body that the stores' payloads, spelt out, would write more than once

    Each is a vector the body binds (often a part call's result), stated over the input windows' blocks and
    numbered on from the skeleton's payload functions (`k0_pay9` …, after `k0_pay8`), so that
    `out0_W` and the values after it name it instead of spelling it out (`unfold_out out0_W` opens a canon
    with them, `unfold_payloads` opens them with the payloads); the comment after each is the printed function's
    name for the value (a count appended where that name is bound again). -/

def k0_pay9 (x0 : Vec F S256x16384 .bf16) : FVec F S256x1 .f32 :=
  k0_pay3 (View.ld x0 r0_0) -- `v5`
def k0_pay10 (x0 : Vec F S256x16384 .bf16) : FVec F S256x1 .f32 :=
  k0_pay4 (View.ld x0 r0_0) -- `v7`
def k0_pay11 (x0 : Vec F S256x16384 .bf16) : IVec S256x1 32 :=
  k0_pay5 (View.ld x0 r0_0) -- `v43`

/-- Window 1's staging buffer after the body, from the input windows' blocks: its 1 store as pieces, LAST
    FIRST (Lib/Pipeline/FrameBody.lean `View.canon`; the payloads are the skeleton's and the values stated above). -/
def out0_1 (x0 : Vec F S256x16384 .bf16) : Vec F S256x16384 .fp8e4m3 :=
  View.canon [⟨r0_0, k0_pay1 (k0_pay2 (View.ld x0 r0_0)) (k0_pay8 (k0_pay9 x0) (k0_pay10 x0) (k0_pay11 x0))⟩]

/-- Its stores tile the buffer (checked by evaluation), so they cover it. -/
theorem cover0_1 (p0 : Vec F S256x16384 .fp8e4m3) (y : S256x16384.Idx) :
    ∃ pc ∈ ([⟨r0_0, p0⟩] : List (View.Piece (Elt F) S256x16384 .fp8e4m3)), y ∈ pc.1.set :=
  View.cover_of_tiled [⟨r0_0, p0⟩] S256x16384.size (by rfl) y

/-- Window 2's staging buffer after the body, from the input windows' blocks: its 1 store as pieces, LAST
    FIRST (Lib/Pipeline/FrameBody.lean `View.canon`; the payloads are the skeleton's and the values stated above). -/
def out0_2 (x0 : Vec F S256x16384 .bf16) : Vec F S256x1 .f32 :=
  View.canon [⟨r0_1, k0_pay7 (k0_pay9 x0) (k0_pay10 x0) (k0_pay11 x0)⟩]

/-- Its stores tile the buffer (checked by evaluation), so they cover it. -/
theorem cover0_2 (p0 : Vec F S256x1 .f32) (y : S256x1.Idx) :
    ∃ pc ∈ ([⟨r0_1, p0⟩] : List (View.Piece (Elt F) S256x1 .f32)), y ∈ pc.1.set :=
  View.cover_of_tiled [⟨r0_1, p0⟩] S256x1.size (by rfl) y

/-! ## The body's triple -/

set_option maxHeartbeats 1000000 in
/-- The kernel body on whole staging memrefs, the inputs' at read contents `xW` and the outputs' at anything, runs to
    the continuation holding the inputs' as they were and each output's at `out0_W` of the inputs': the printed functions
    are their skeletons (`Gen.*_eq_skeleton`), which `sl_exec` runs (Lib/Exec.lean), through every part call. -/
theorem sound_kernel0 (c : Dev nD) (E : Set ℕ) (i : grid0.Coords) (arg1 : Memref sig .tc .vmem S256x16384 .bf16) (harg1 : arg1.IsWhole) (arg2 : Memref sig .tc .vmem S256x16384 .fp8e4m3) (harg2 : arg2.IsWhole) (arg3 : Memref sig .tc .vmem S256x1 .f32) (harg3 : arg3.IsWhole)
    (x0 : Vec F S256x16384 .bf16) (K : PUnit → sProp 𝕄) :
    iprop(owns (c : Thread nD τ) arg1 fullShare x0 ∗ (∃ d, owns (c : Thread nD τ) arg2 fullShare d) ∗ (∃ d, owns (c : Thread nD τ) arg3 fullShare d)
        ∗ (iprop(owns (c : Thread nD τ) arg1 fullShare x0 ∗ owns (c : Thread nD τ) arg2 fullShare (out0_1 x0) ∗ owns (c : Thread nD τ) arg3 fullShare (out0_2 x0)) -∗ K ⟨⟩))
      ⊢ wp frame (wpE (defs₀ (F := F)) Variants.none c none) E (cc0_quant_x i arg1 harg1 arg2 harg2 arg3 harg3) K := by
  simp only [cc0_quant_x_eq_skeleton]; unfold cc0_quant_x_skel
  simp only [k0_part1_eq_skeleton, k0_part2_eq_skeleton]
  unfold owns
  iintro ⟨⟨%f0, %hf0, H0⟩, ⟨%d1, %f1, -, H1⟩, ⟨%d2, %f2, -, H2⟩, Hk⟩
  subst hf0
  sl_exec
  sl_step
  iapply Hk
  isplitl [H0]
  · iexists f0; isplitr; · ipureintro; rfl
    iexact H0
  isplitl [H1]
  · iexists _; isplitr
    swap; · iexact H1
    ipureintro
    refine (View.read_writes_eq_canon _ _ _ (cover0_1 _)).trans ?_
    rfl
  iexists _; isplitr
  swap; · iexact H2
  ipureintro
  refine (View.read_writes_eq_canon _ _ _ (cover0_2 _)).trans ?_
  rfl

/-! ## The pipeline's proof data -/

/-- The proof data of pipeline 0 on core `c`: the arrays as the region finds them (`V`); after the body at
    point `t` each input's buffer at its block and each output's at `out0_W` of the input blocks; the invariant the
    class's (Lib/Pipeline/Frame.lean `ΦA`: the scoped rest and the generator register, untouched); nothing owed;
    full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
    | ⟨2, _⟩ => out0_2 (iblk0 V c 0 t)
  Φ _ := Pipeline.ΦA spec0 c
  q _ := fullShare
  owed _ := 0

/-- The proof data's arrays are the region-entry contents, by projecting the definition (`dsimp`): a region record cites
    this for its arrays rather than have Lean unfold `V`, the fold through @main up to the region's entry. -/
theorem A_eq0 (c : Dev nD) (w : Fin cfg0.W) : (dat0 V c).A w = V c (Pipeline.arrRef spec0 w) := by
  dsimp only [dat0]

/-- What the body leaves, window by window (the proof data's `match` reduced by `dsimp`, never `rfl`: Lib/Pipeline.lean `Dat`). -/
theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]
theorem after0_2 (c : Dev nD) (t : Fin cfg0.N) : (dat0 V c).after 2 t = out0_2 (iblk0 V c 0 t) := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d

/-! ## The body obligation, at a generic point -/

/-- What the body is called with at point `t` (Lib/Pipeline.lean `BodyObligation`'s precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks (`before0_W`), so `sound_kernel0` applies; the invariant and
    the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ (grid0.coords t) _ _ _ _ _ _ (iblk0 V c 0 t) _)
  isplitl [H0]; · iexact H0
  isplitl [H1]; · iexists _; iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

/-! # REGION 1 of @main: custom_call 1, `cc1_swiglu_matmul` (pipeline 1), at the entry contents `V` — class R -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch conditions -/

/-- The condition of the body's `scf.if` 0 (`k1_h1`), from the grid coordinates (the skeleton's scalar
    chain substituted). -/
abbrev cond1_0 (i : grid1.Coords) : Prop := k1_cond1 i = 1#1
/-- It holds at the first point only — by arithmetic of the point. -/
theorem hcond1_0 : ∀ t : Fin cfg1.N, cond1_0 (grid1.coords t) ↔ t.val % 216 = 0 :=
  (fun t => by
    have ht : t.val < 216 := Nat.lt_of_lt_of_eq t.isLt N_1
    have e0 : (grid1.coords t 0).val = t.val / 24 % 9 := Pipeline.Grid.coords_val t 0 (by decide) rfl
    have e1 : (grid1.coords t 1).val = t.val / 1 % 24 := Pipeline.Grid.coords_val t 1 (by decide) rfl
    simp only [cond1_0, k1_cond1, e0, e1]
    word_cmp
   : ∀ t : Fin grid1.N, cond1_0 (grid1.coords t) ↔ t.val % 216 = 0)

/-- The condition of the body's `scf.if` 1 (`k1_h2`), from the grid coordinates (the skeleton's scalar
    chain substituted). -/
abbrev cond1_1 (i : grid1.Coords) : Prop := k1_cond2 i = 1#1
/-- It holds at the points from point 1 on — decided over the grid. -/
theorem hcond1_1 : ∀ t : Fin cfg1.N, cond1_1 (grid1.coords t) ↔ 1 ≤ t.val :=
  (by decide +kernel : ∀ t : Fin grid1.N, cond1_1 (grid1.coords t) ↔ 1 ≤ t.val)

/-! ## Where the windows are idle (the printed configuration's table `Cfg.idle`) -/

/-- Window 0 is never idle (an input). -/
theorem liveAt1_0 : ∀ t : Fin cfg1.N, cfg1.idle 0 (grid1.coords t) = false := fun _ => rfl
/-- Window 1 is never idle (an input). -/
theorem liveAt1_1 : ∀ t : Fin cfg1.N, cfg1.idle 1 (grid1.coords t) = false := fun _ => rfl
/-- Window 2 is never idle (an input). -/
theorem liveAt1_2 : ∀ t : Fin cfg1.N, cfg1.idle 2 (grid1.coords t) = false := fun _ => rfl
/-- Window 3 is never idle (an input). -/
theorem liveAt1_3 : ∀ t : Fin cfg1.N, cfg1.idle 3 (grid1.coords t) = false := fun _ => rfl
/-- Window 4 is never idle (an output stored at every point, under no condition). -/
theorem liveAt1_4 : ∀ t : Fin cfg1.N, cfg1.idle 4 (grid1.coords t) = false := fun _ => rfl
/-- Whether output 5's buffer is FRESH at each position `1 ‥ N` — holds nothing the body stored since the region's entry or the
    last write-back (written back at the point before, or idle there and fresh before it) —, as a bitmask the classifier
    computed, bit `n` for position `n + 1`; position 0 is fresh. `freshTab1_5_step` checks it against the configuration's own
    step point by point and Lib/Pipeline/TableIdle.lean `Cfg.fresh_tab` makes it `Cfg.fresh` (`fresh1_5_eq`). -/
def freshTab1_5 : ℕ → Bool
  | 0 => true
  | n + 1 => (0x800000000000000000000000000000000000000000000000000000 : ℕ).testBit n
theorem freshTab1_5_step : ∀ t : Fin cfg1.N,
    freshTab1_5 (t.val + 1) = ((cfg1.win 5).flush t || (cfg1.idle 5 (cfg1.grid.coords t) && freshTab1_5 t.val)) := by decide +kernel
theorem fresh1_5_eq (t : Fin cfg1.N) : cfg1.fresh 5 t.val = freshTab1_5 t.val :=
  Pipeline.Cfg.fresh_tab cfg1 5 freshTab1_5 rfl freshTab1_5_step t.val (Nat.le_of_lt t.isLt)
/-- At the points of case A the printed configuration (`Cfg.idle`) calls output 5 live: the case stores into it. -/
theorem liveAt1_5_A : ∀ t : Fin cfg1.N, cond1_0 (grid1.coords t) → ¬cond1_1 (grid1.coords t) → cfg1.idle 5 (grid1.coords t) = false := by decide +kernel
/-- At the points of case B the printed configuration (`Cfg.idle`) calls output 5 live: the case stores into it. -/
theorem liveAt1_5_B : ∀ t : Fin cfg1.N, ¬cond1_0 (grid1.coords t) → cond1_1 (grid1.coords t) → cfg1.idle 5 (grid1.coords t) = false := by decide +kernel
/-- At the points of case B, which keeps output 5's prior contents (reads it before covering, or covers it in part), the
    window's buffer is not FRESH: something was stored into it since the region's entry or its last write-back, idle points
    between or not (Lib/Pipeline/TableIdle.lean `Cfg.fresh`, by the table `freshTab1_5`). -/
theorem notFresh1_5_B : ∀ t : Fin cfg1.N, ¬cond1_0 (grid1.coords t) → cond1_1 (grid1.coords t) → cfg1.fresh 5 t.val = false := by
  intro t; rw [fresh1_5_eq t]; revert t; decide +kernel

/-! ## The kernel body on any staging memrefs: a subtype the run finds -/

/-- One staging buffer of output window 4, through which its contents are stated (`View.read_writes_of_cover`: the
    choice does not matter). -/
abbrev VO1_4 : View sig .tc .vmem S1024x256 .f32 := (Memref.whole cc1_stg4_0 : Memref sig .tc .vmem S1024x256 .f32).view
/-- One staging buffer of output window 5, through which its contents are stated (`View.read_writes_of_cover`: the
    choice does not matter). -/
abbrev VO1_5 : View sig .tc .vmem S8x128 .f32 := (Memref.whole cc1_stg5_0 : Memref sig .tc .vmem S8x128 .f32).view
/-- Each window's current staging memref at point `t`, spelled as the pipeline passes it (`bodyAt1`), and its wholeness. -/
abbrev ms1_0 (t : Fin cfg1.N) : Memref sig .tc .vmem S1024x16384 .fp8e4m3 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x1 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S2x16384x256 .fp8e4m3 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S2x256 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1024x256 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S8x128 .f32 := win1_5.stage (cfg1.slots t 5)
abbrev hs1_5 (t : Fin cfg1.N) : (ms1_5 t).IsWhole := hstage1_5 ((cfg1.slots t 5).cast nbuf1_5)

set_option maxHeartbeats 1000000 in
/-- What the body's stores leave in each output's staging memref, as pieces (last first) IN CASE A (`scf.if` 0 taken, `scf.if` 1 not taken: points 0), WITH the
    proof that on whole staging memrefs — the inputs' at their contents, the other outputs' at
    anything, the body runs to the continuation holding the inputs' as they were,
    each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun1_A (c : Dev nD) (i : grid1.Coords) (arg2 : Memref sig .tc .vmem S1024x16384 .fp8e4m3) (harg2 : arg2.IsWhole) (arg3 : Memref sig .tc .vmem S1024x1 .f32) (harg3 : arg3.IsWhole) (arg4 : Memref sig .tc .vmem S2x16384x256 .fp8e4m3) (harg4 : arg4.IsWhole) (arg5 : Memref sig .tc .vmem S2x256 .f32) (harg5 : arg5.IsWhole) (arg6 : Memref sig .tc .vmem S1024x256 .f32) (harg6 : arg6.IsWhole) (arg7 : Memref sig .tc .vmem S8x128 .f32) (harg7 : arg7.IsWhole) (hc0 : cond1_0 i) (hc1 : ¬cond1_1 i)
    (x0 : Vec F S1024x16384 .fp8e4m3) (x1 : Vec F S1024x1 .f32) (x2 : Vec F S2x16384x256 .fp8e4m3) (x3 : Vec F S2x256 .f32) :
    Σ' (L4 : List (View.Piece (Elt F) S1024x256 .f32)), { L5 : List (View.Piece (Elt F) S8x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5)) -∗ K ⟨⟩))
          ⊢ wp frame (wpE (defs₀ (F := F)) Variants.none c none) E (cc1_swiglu_matmul i arg2 harg2 arg3 harg3 arg4 harg4 arg5 harg5 arg6 harg6 arg7 harg7) K } := by
  refine ⟨?_, ?_, fun E K => ?run⟩
  case run =>
    simp only [cc1_swiglu_matmul_eq_skeleton]; unfold cc1_swiglu_matmul_skel
    simp only [k1_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
    obtain rfl := harg2.eq_unread hf0; obtain rfl := harg3.eq_unread hf1; obtain rfl := harg4.eq_unread hf2; obtain rfl := harg5.eq_unread hf3
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact H5

/-- Case A's pieces for output 4 tile its block (1 store of `S1024x256`), so they cover it. -/
theorem cover1_A_4 (c : Dev nD) (i : grid1.Coords) (arg2 : Memref sig .tc .vmem S1024x16384 .fp8e4m3) (harg2 : arg2.IsWhole) (arg3 : Memref sig .tc .vmem S1024x1 .f32) (harg3 : arg3.IsWhole) (arg4 : Memref sig .tc .vmem S2x16384x256 .fp8e4m3) (harg4 : arg4.IsWhole) (arg5 : Memref sig .tc .vmem S2x256 .f32) (harg5 : arg5.IsWhole) (arg6 : Memref sig .tc .vmem S1024x256 .f32) (harg6 : arg6.IsWhole) (arg7 : Memref sig .tc .vmem S8x128 .f32) (harg7 : arg7.IsWhole) (hc0 : cond1_0 i) (hc1 : ¬cond1_1 i)
    (x0 : Vec F S1024x16384 .fp8e4m3) (x1 : Vec F S1024x1 .f32) (x2 : Vec F S2x16384x256 .fp8e4m3) (x3 : Vec F S2x256 .f32) (y : S1024x256.Idx) :
    ∃ pc ∈ (kernelRun1_A c i arg2 harg2 arg3 harg3 arg4 harg4 arg5 harg5 arg6 harg6 arg7 harg7 hc0 hc1 x0 x1 x2 x3).1, y ∈ pc.1.set :=
  View.cover_of_tiledL (kernelRun1_A c i arg2 harg2 arg3 harg3 arg4 harg4 arg5 harg5 arg6 harg6 arg7 harg7 hc0 hc1 x0 x1 x2 x3).1 S1024x256.size (by sl_kernel_rfl) y

/-- What case A leaves in output 4's staging buffer: its pieces read back over junk. -/
def out1_A_4 (c : Dev nD) (i : grid1.Coords) (arg2 : Memref sig .tc .vmem S1024x16384 .fp8e4m3) (harg2 : arg2.IsWhole) (arg3 : Memref sig .tc .vmem S1024x1 .f32) (harg3 : arg3.IsWhole) (arg4 : Memref sig .tc .vmem S2x16384x256 .fp8e4m3) (harg4 : arg4.IsWhole) (arg5 : Memref sig .tc .vmem S2x256 .f32) (harg5 : arg5.IsWhole) (arg6 : Memref sig .tc .vmem S1024x256 .f32) (harg6 : arg6.IsWhole) (arg7 : Memref sig .tc .vmem S8x128 .f32) (harg7 : arg7.IsWhole) (hc0 : cond1_0 i) (hc1 : ¬cond1_1 i)
    (x0 : Vec F S1024x16384 .fp8e4m3) (x1 : Vec F S1024x1 .f32) (x2 : Vec F S2x16384x256 .fp8e4m3) (x3 : Vec F S2x256 .f32) : Vec F S1024x256 .f32 :=
  VO1_4.read (Elt F) (VO1_4.writes (Elt F) VO1_4.junk (kernelRun1_A c i arg2 harg2 arg3 harg3 arg4 harg4 arg5 harg5 arg6 harg6 arg7 harg7 hc0 hc1 x0 x1 x2 x3).1)

/-- Case A's pieces for output 5 tile its block (1 store of `S8x128`), so they cover it. -/
theorem cover1_A_5 (c : Dev nD) (i : grid1.Coords) (arg2 : Memref sig .tc .vmem S1024x16384 .fp8e4m3) (harg2 : arg2.IsWhole) (arg3 : Memref sig .tc .vmem S1024x1 .f32) (harg3 : arg3.IsWhole) (arg4 : Memref sig .tc .vmem S2x16384x256 .fp8e4m3) (harg4 : arg4.IsWhole) (arg5 : Memref sig .tc .vmem S2x256 .f32) (harg5 : arg5.IsWhole) (arg6 : Memref sig .tc .vmem S1024x256 .f32) (harg6 : arg6.IsWhole) (arg7 : Memref sig .tc .vmem S8x128 .f32) (harg7 : arg7.IsWhole) (hc0 : cond1_0 i) (hc1 : ¬cond1_1 i)
    (x0 : Vec F S1024x16384 .fp8e4m3) (x1 : Vec F S1024x1 .f32) (x2 : Vec F S2x16384x256 .fp8e4m3) (x3 : Vec F S2x256 .f32) (y : S8x128.Idx) :
    ∃ pc ∈ (kernelRun1_A c i arg2 harg2 arg3 harg3 arg4 harg4 arg5 harg5 arg6 harg6 arg7 harg7 hc0 hc1 x0 x1 x2 x3).2.1, y ∈ pc.1.set :=
  View.cover_of_tiledL (kernelRun1_A c i arg2 harg2 arg3 harg3 arg4 harg4 arg5 harg5 arg6 harg6 arg7 harg7 hc0 hc1 x0 x1 x2 x3).2.1 S8x128.size (by sl_kernel_rfl) y

/-- What case A leaves in output 5's staging buffer: its pieces read back over junk. -/
def out1_A_5 (c : Dev nD) (i : grid1.Coords) (arg2 : Memref sig .tc .vmem S1024x16384 .fp8e4m3) (harg2 : arg2.IsWhole) (arg3 : Memref sig .tc .vmem S1024x1 .f32) (harg3 : arg3.IsWhole) (arg4 : Memref sig .tc .vmem S2x16384x256 .fp8e4m3) (harg4 : arg4.IsWhole) (arg5 : Memref sig .tc .vmem S2x256 .f32) (harg5 : arg5.IsWhole) (arg6 : Memref sig .tc .vmem S1024x256 .f32) (harg6 : arg6.IsWhole) (arg7 : Memref sig .tc .vmem S8x128 .f32) (harg7 : arg7.IsWhole) (hc0 : cond1_0 i) (hc1 : ¬cond1_1 i)
    (x0 : Vec F S1024x16384 .fp8e4m3) (x1 : Vec F S1024x1 .f32) (x2 : Vec F S2x16384x256 .fp8e4m3) (x3 : Vec F S2x256 .f32) : Vec F S8x128 .f32 :=
  VO1_5.read (Elt F) (VO1_5.writes (Elt F) VO1_5.junk (kernelRun1_A c i arg2 harg2 arg3 harg3 arg4 harg4 arg5 harg5 arg6 harg6 arg7 harg7 hc0 hc1 x0 x1 x2 x3).2.1)

set_option maxHeartbeats 1000000 in
/-- What the body's stores leave in each output's staging memref, as pieces (last first) IN CASE B (`scf.if` 0 not taken, `scf.if` 1 taken: points 1, 2, … 215: 215 of 216), WITH the
    proof that on whole staging memrefs — the inputs' at their contents, the outputs it reads before covering (5) at their running contents `xo·`, the other outputs' at
    anything, the body runs to the continuation holding the inputs' as they were,
    each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun1_B (c : Dev nD) (i : grid1.Coords) (arg2 : Memref sig .tc .vmem S1024x16384 .fp8e4m3) (harg2 : arg2.IsWhole) (arg3 : Memref sig .tc .vmem S1024x1 .f32) (harg3 : arg3.IsWhole) (arg4 : Memref sig .tc .vmem S2x16384x256 .fp8e4m3) (harg4 : arg4.IsWhole) (arg5 : Memref sig .tc .vmem S2x256 .f32) (harg5 : arg5.IsWhole) (arg6 : Memref sig .tc .vmem S1024x256 .f32) (harg6 : arg6.IsWhole) (arg7 : Memref sig .tc .vmem S8x128 .f32) (harg7 : arg7.IsWhole) (hc0 : ¬cond1_0 i) (hc1 : cond1_1 i)
    (x0 : Vec F S1024x16384 .fp8e4m3) (x1 : Vec F S1024x1 .f32) (x2 : Vec F S2x16384x256 .fp8e4m3) (x3 : Vec F S2x256 .f32) (xo5 : Vec F S8x128 .f32) :
    Σ' (L4 : List (View.Piece (Elt F) S1024x256 .f32)), { L5 : List (View.Piece (Elt F) S8x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xo5
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5)) -∗ K ⟨⟩))
          ⊢ wp frame (wpE (defs₀ (F := F)) Variants.none c none) E (cc1_swiglu_matmul i arg2 harg2 arg3 harg3 arg4 harg4 arg5 harg5 arg6 harg6 arg7 harg7) K } := by
  refine ⟨?_, ?_, fun E K => ?run⟩
  case run =>
    simp only [cc1_swiglu_matmul_eq_skeleton]; unfold cc1_swiglu_matmul_skel
    simp only [k1_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, Hk⟩
    obtain rfl := harg2.eq_unread hf0; obtain rfl := harg3.eq_unread hf1; obtain rfl := harg4.eq_unread hf2; obtain rfl := harg5.eq_unread hf3; obtain rfl := harg7.eq_unread hf5
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact H5

/-- Case B's pieces for output 4 tile its block (1 store of `S1024x256`), so they cover it. -/
theorem cover1_B_4 (c : Dev nD) (i : grid1.Coords) (arg2 : Memref sig .tc .vmem S1024x16384 .fp8e4m3) (harg2 : arg2.IsWhole) (arg3 : Memref sig .tc .vmem S1024x1 .f32) (harg3 : arg3.IsWhole) (arg4 : Memref sig .tc .vmem S2x16384x256 .fp8e4m3) (harg4 : arg4.IsWhole) (arg5 : Memref sig .tc .vmem S2x256 .f32) (harg5 : arg5.IsWhole) (arg6 : Memref sig .tc .vmem S1024x256 .f32) (harg6 : arg6.IsWhole) (arg7 : Memref sig .tc .vmem S8x128 .f32) (harg7 : arg7.IsWhole) (hc0 : ¬cond1_0 i) (hc1 : cond1_1 i)
    (x0 : Vec F S1024x16384 .fp8e4m3) (x1 : Vec F S1024x1 .f32) (x2 : Vec F S2x16384x256 .fp8e4m3) (x3 : Vec F S2x256 .f32) (xo5 : Vec F S8x128 .f32) (y : S1024x256.Idx) :
    ∃ pc ∈ (kernelRun1_B c i arg2 harg2 arg3 harg3 arg4 harg4 arg5 harg5 arg6 harg6 arg7 harg7 hc0 hc1 x0 x1 x2 x3 xo5).1, y ∈ pc.1.set :=
  View.cover_of_tiledL (kernelRun1_B c i arg2 harg2 arg3 harg3 arg4 harg4 arg5 harg5 arg6 harg6 arg7 harg7 hc0 hc1 x0 x1 x2 x3 xo5).1 S1024x256.size (by sl_kernel_rfl) y

/-- What case B leaves in output 4's staging buffer: its pieces read back over junk. -/
def out1_B_4 (c : Dev nD) (i : grid1.Coords) (arg2 : Memref sig .tc .vmem S1024x16384 .fp8e4m3) (harg2 : arg2.IsWhole) (arg3 : Memref sig .tc .vmem S1024x1 .f32) (harg3 : arg3.IsWhole) (arg4 : Memref sig .tc .vmem S2x16384x256 .fp8e4m3) (harg4 : arg4.IsWhole) (arg5 : Memref sig .tc .vmem S2x256 .f32) (harg5 : arg5.IsWhole) (arg6 : Memref sig .tc .vmem S1024x256 .f32) (harg6 : arg6.IsWhole) (arg7 : Memref sig .tc .vmem S8x128 .f32) (harg7 : arg7.IsWhole) (hc0 : ¬cond1_0 i) (hc1 : cond1_1 i)
    (x0 : Vec F S1024x16384 .fp8e4m3) (x1 : Vec F S1024x1 .f32) (x2 : Vec F S2x16384x256 .fp8e4m3) (x3 : Vec F S2x256 .f32) (xo5 : Vec F S8x128 .f32) : Vec F S1024x256 .f32 :=
  VO1_4.read (Elt F) (VO1_4.writes (Elt F) VO1_4.junk (kernelRun1_B c i arg2 harg2 arg3 harg3 arg4 harg4 arg5 harg5 arg6 harg6 arg7 harg7 hc0 hc1 x0 x1 x2 x3 xo5).1)

/-- Case B's pieces for output 5 tile its block (1 store of `S8x128`), so they cover it. -/
theorem cover1_B_5 (c : Dev nD) (i : grid1.Coords) (arg2 : Memref sig .tc .vmem S1024x16384 .fp8e4m3) (harg2 : arg2.IsWhole) (arg3 : Memref sig .tc .vmem S1024x1 .f32) (harg3 : arg3.IsWhole) (arg4 : Memref sig .tc .vmem S2x16384x256 .fp8e4m3) (harg4 : arg4.IsWhole) (arg5 : Memref sig .tc .vmem S2x256 .f32) (harg5 : arg5.IsWhole) (arg6 : Memref sig .tc .vmem S1024x256 .f32) (harg6 : arg6.IsWhole) (arg7 : Memref sig .tc .vmem S8x128 .f32) (harg7 : arg7.IsWhole) (hc0 : ¬cond1_0 i) (hc1 : cond1_1 i)
    (x0 : Vec F S1024x16384 .fp8e4m3) (x1 : Vec F S1024x1 .f32) (x2 : Vec F S2x16384x256 .fp8e4m3) (x3 : Vec F S2x256 .f32) (xo5 : Vec F S8x128 .f32) (y : S8x128.Idx) :
    ∃ pc ∈ (kernelRun1_B c i arg2 harg2 arg3 harg3 arg4 harg4 arg5 harg5 arg6 harg6 arg7 harg7 hc0 hc1 x0 x1 x2 x3 xo5).2.1, y ∈ pc.1.set :=
  View.cover_of_tiledL (kernelRun1_B c i arg2 harg2 arg3 harg3 arg4 harg4 arg5 harg5 arg6 harg6 arg7 harg7 hc0 hc1 x0 x1 x2 x3 xo5).2.1 S8x128.size (by sl_kernel_rfl) y

/-- What case B leaves in output 5's staging buffer: its pieces read back over junk. -/
def out1_B_5 (c : Dev nD) (i : grid1.Coords) (arg2 : Memref sig .tc .vmem S1024x16384 .fp8e4m3) (harg2 : arg2.IsWhole) (arg3 : Memref sig .tc .vmem S1024x1 .f32) (harg3 : arg3.IsWhole) (arg4 : Memref sig .tc .vmem S2x16384x256 .fp8e4m3) (harg4 : arg4.IsWhole) (arg5 : Memref sig .tc .vmem S2x256 .f32) (harg5 : arg5.IsWhole) (arg6 : Memref sig .tc .vmem S1024x256 .f32) (harg6 : arg6.IsWhole) (arg7 : Memref sig .tc .vmem S8x128 .f32) (harg7 : arg7.IsWhole) (hc0 : ¬cond1_0 i) (hc1 : cond1_1 i)
    (x0 : Vec F S1024x16384 .fp8e4m3) (x1 : Vec F S1024x1 .f32) (x2 : Vec F S2x16384x256 .fp8e4m3) (x3 : Vec F S2x256 .f32) (xo5 : Vec F S8x128 .f32) : Vec F S8x128 .f32 :=
  VO1_5.read (Elt F) (VO1_5.writes (Elt F) VO1_5.junk (kernelRun1_B c i arg2 harg2 arg3 harg3 arg4 harg4 arg5 harg5 arg6 harg6 arg7 harg7 hc0 hc1 x0 x1 x2 x3 xo5).2.1)

/-! ## What the outputs hold after each point -/

/-- THE ACCUMULATION. What the outputs' staging buffers hold after the body at position `n` (a tuple, in window order):
    the case the closed forms select at `n`, run at the point's memrefs and input blocks, an output it reads before covering
    at what this leaves at `n - 1` (its buffer is not written back between: `before1_W_κ`); an output it leaves idle whose contents another case keeps stays
    what this leaves at `n - 1`, carried. An assignment of the conditions no point meets is no case (`False.elim`). -/
def outsAt1 (c : Dev nD) : (n : ℕ) → n < cfg1.N → Vec F S1024x256 .f32 × Vec F S8x128 .f32
  | 0, hn => (out1_A_4 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩), out1_A_5 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩))
  | n + 1, hn =>
    if h0 : (n + 1) % 216 = 0 then
      if h1 : 1 ≤ (n + 1) then
        False.elim (by have hN : n + 1 < 216 := lt_of_lt_of_eq hn (show cfg1.N = 216 from N_1); omega)
      else
        (out1_A_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩), out1_A_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩))
    else
      if h1 : 1 ≤ (n + 1) then
        (out1_B_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2, out1_B_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2)
      else
        False.elim (by have hN : n + 1 < 216 := lt_of_lt_of_eq hn (show cfg1.N = 216 from N_1); omega)

/-- `outsAt1` at a point of case A: that case's contents. -/
theorem outsAt1_A (c : Dev nD) (t : Fin cfg1.N) (h0 : t.val % 216 = 0) (h1 : ¬1 ≤ t.val) :
    outsAt1 V c t.val t.isLt = (out1_A_4 c (grid1.coords t) (ms1_0 t) (hs1_0 t) (ms1_1 t) (hs1_1 t) (ms1_2 t) (hs1_2 t) (ms1_3 t) (hs1_3 t) (ms1_4 t) (hs1_4 t) (ms1_5 t) (hs1_5 t) ((hcond1_0 t).mpr h0) (fun h => h1 ((hcond1_1 t).mp h)) (iblk1 V c 0 t) (iblk1 V c 1 t) (iblk1 V c 2 t) (iblk1 V c 3 t), out1_A_5 c (grid1.coords t) (ms1_0 t) (hs1_0 t) (ms1_1 t) (hs1_1 t) (ms1_2 t) (hs1_2 t) (ms1_3 t) (hs1_3 t) (ms1_4 t) (hs1_4 t) (ms1_5 t) (hs1_5 t) ((hcond1_0 t).mpr h0) (fun h => h1 ((hcond1_1 t).mp h)) (iblk1 V c 0 t) (iblk1 V c 1 t) (iblk1 V c 2 t) (iblk1 V c 3 t)) := by
  obtain ⟨n, hn⟩ := t
  cases n with
  | zero => exact rfl
  | succ n => exact (dif_pos h0).trans ((dif_neg h1).trans rfl)

/-- `outsAt1` at a point of case B: that case's contents, over what the point before left. -/
theorem outsAt1_B (c : Dev nD) (t : Fin cfg1.N) (h0 : ¬t.val % 216 = 0) (h1 : 1 ≤ t.val) :
    outsAt1 V c t.val t.isLt = (out1_B_4 c (grid1.coords t) (ms1_0 t) (hs1_0 t) (ms1_1 t) (hs1_1 t) (ms1_2 t) (hs1_2 t) (ms1_3 t) (hs1_3 t) (ms1_4 t) (hs1_4 t) (ms1_5 t) (hs1_5 t) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2, out1_B_5 c (grid1.coords t) (ms1_0 t) (hs1_0 t) (ms1_1 t) (hs1_1 t) (ms1_2 t) (hs1_2 t) (ms1_3 t) (hs1_3 t) (ms1_4 t) (hs1_4 t) (ms1_5 t) (hs1_5 t) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The pipeline's proof data -/

/-- The proof data of pipeline 1 on core `c`: the arrays as the region finds them (`V`); after the body at
    point `t` each input's buffer at its block and the outputs' at `outsAt1`; the invariant the class's
    (Lib/Pipeline/Frame.lean `ΦA`: the scoped rest and the generator register); nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
    | ⟨5, _⟩ => (outsAt1 V c t.val t.isLt).2
  Φ _ := Pipeline.ΦA spec1 c
  q _ := fullShare
  owed _ := 0

/-- The proof data's arrays are the region-entry contents, by projecting the definition (`dsimp`): a region record cites
    this for its arrays rather than have Lean unfold `V`, the fold through @main up to the region's entry. -/
theorem A_eq1 (c : Dev nD) (w : Fin cfg1.W) : (dat1 V c).A w = V c (Pipeline.arrRef spec1 w) := by
  dsimp only [dat1]

/-- What the body leaves, window by window (the proof data's `match` reduced by `dsimp`). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt).1 := by dsimp only [dat1]
theorem after1_5 (c : Dev nD) (t : Fin cfg1.N) : (dat1 V c).after 5 t = (outsAt1 V c t.val t.isLt).2 := by dsimp only [dat1]

/-- Each input's current staging buffer holds its block at every point, fetched there or not (`beforeK_W_of`). -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-- Output 5's contents CARRY through the points that leave it idle: at such a point, its buffer not fresh, the proof data's
    `after` is the point before's (the case there stores nothing into the window and its term says so; a case that stores
    into it is not idle there by `liveAt1_5_κ`) — the hypothesis of Lib/Pipeline/TableIdle.lean `Dat.before_out_traj`. -/
theorem hcarry1_5 (c : Dev nD) : ∀ (t : Fin cfg1.N) (_ : t.val ≠ 0), cfg1.idle 5 (grid1.coords t) = true → cfg1.fresh 5 t.val = false →
    (dat1 V c).after 5 t = (dat1 V c).after 5 ⟨t.val - 1, by omega⟩ := by
  intro t _ hi _
  have hN : t.val < 216 := lt_of_lt_of_eq t.isLt (show cfg1.N = 216 from N_1)
  rw [after1_5, after1_5]
  by_cases h0 : t.val % 216 = 0
  · by_cases h1 : 1 ≤ t.val
    · exfalso; omega
    · rw [liveAt1_5_A t ((hcond1_0 t).mpr h0) (fun h => h1 ((hcond1_1 t).mp h))] at hi
      exact absurd hi Bool.false_ne_true
  · by_cases h1 : 1 ≤ t.val
    · rw [liveAt1_5_B t (fun h => h0 ((hcond1_0 t).mp h)) ((hcond1_1 t).mpr h1)] at hi
      exact absurd hi Bool.false_ne_true
    · exfalso; omega
/-- At a point of case B output 5's current staging buffer holds what the point before left: the buffer is not fresh
    there (`notFresh1_5_B`: stored into since the region's entry or the last write-back, carried through the points that
    leave it idle by `hcarry1_5`; Lib/Pipeline/TableIdle.lean `Dat.before_out_traj`). -/
theorem before1_5_B (c : Dev nD) (t : Fin cfg1.N) (h0 : ¬t.val % 216 = 0) (h1 : 1 ≤ t.val) (d) :
    (dat1 V c).before 5 t d = (outsAt1 V c (t.val - 1) (Nat.lt_of_le_of_lt (Nat.sub_le _ _) t.isLt)).2 := by
  rw [Dat.before_out_traj _ 5 rfl (fun _ _ => rfl) (hcarry1_5 V c) t.val t rfl d,
    if_neg (by rw [notFresh1_5_B t (fun h => h0 ((hcond1_0 t).mp h)) ((hcond1_1 t).mpr h1)]; exact Bool.false_ne_true)]
  dsimp only [dat1]

/-! ## The body obligation, at a generic point -/

/-- What the body is called with at point `t` (Lib/Pipeline.lean `BodyObligation`'s precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

set_option maxHeartbeats 800000 in
/-- The body at any point: the inputs' memrefs hold their blocks (`before1_W`); the closed forms say which case the point is in (`by_cases`), an output the case reads before covering holds what the point before left (`before1_W_κ`); so the
    run applies; the invariant passes through unread; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl]
  have hN : t.val < 216 := lt_of_lt_of_eq t.isLt (show cfg1.N = 216 from N_1)
  by_cases h0 : t.val % 216 = 0
  · by_cases h1 : 1 ≤ t.val
    · exfalso; omega
    · rw [show (dat1 V c).leavesExact 0 t = owns (c : Thread nD τ) (ms1_0 t) fullShare ((dat1 V c).after 0 t) from by
      unfold Dat.leavesExact; rw [liveAt1_0 t], after1_0]
      rw [show (dat1 V c).leavesExact 1 t = owns (c : Thread nD τ) (ms1_1 t) fullShare ((dat1 V c).after 1 t) from by
      unfold Dat.leavesExact; rw [liveAt1_1 t], after1_1]
      rw [show (dat1 V c).leavesExact 2 t = owns (c : Thread nD τ) (ms1_2 t) fullShare ((dat1 V c).after 2 t) from by
      unfold Dat.leavesExact; rw [liveAt1_2 t], after1_2]
      rw [show (dat1 V c).leavesExact 3 t = owns (c : Thread nD τ) (ms1_3 t) fullShare ((dat1 V c).after 3 t) from by
      unfold Dat.leavesExact; rw [liveAt1_3 t], after1_3]
      rw [show (dat1 V c).leavesExact 4 t = owns (c : Thread nD τ) (ms1_4 t) fullShare ((dat1 V c).after 4 t) from by
      unfold Dat.leavesExact; rw [liveAt1_4 t], after1_4]
      rw [show (dat1 V c).leavesExact 5 t = owns (c : Thread nD τ) (ms1_5 t) fullShare ((dat1 V c).after 5 t) from by
      unfold Dat.leavesExact; rw [liveAt1_5_A t ((hcond1_0 t).mpr h0) (fun h => h1 ((hcond1_1 t).mp h))], after1_5]
      rw [outsAt1_A V c t h0 h1]
      unfold out1_A_4 out1_A_5; (try dsimp only)
      iintro ⟨HΦ, Ho, ⟨%d0, H0⟩, ⟨%d1, H1⟩, ⟨%d2, H2⟩, ⟨%d3, H3⟩, ⟨%d4, H4⟩, ⟨%d5, H5⟩⟩
      iapply ((kernelRun1_A c (grid1.coords t) _ _ _ _ _ _ _ _ _ _ _ _ ((hcond1_0 t).mpr h0) (fun h => h1 ((hcond1_1 t).mp h)) (iblk1 V c 0 t) (iblk1 V c 1 t) (iblk1 V c 2 t) (iblk1 V c 3 t)).2.2 Set.univ _)
      isplitl [H0]; · iexact H0
      isplitl [H1]; · iexact H1
      isplitl [H2]; · iexact H2
      isplitl [H3]; · iexact H3
      isplitl [H4]; · iexists _; iexact H4
      isplitl [H5]; · iexists _; iexact H5
      iintro ⟨H0, H1, H2, H3, ⟨%e4, H4⟩, ⟨%e5, H5⟩⟩
      isplitl [HΦ]; · iexact HΦ
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover1_A_4 c _ _ _ _ _ _ _ _ _ _ _ _ _ _ _ _ _ _ _)
      unfold owns; iexists _; isplitr
      swap; · iexact H5
      ipureintro; exact View.read_writes_of_cover _ _ _ _ _ (cover1_A_5 c _ _ _ _ _ _ _ _ _ _ _ _ _ _ _ _ _ _ _)
  · by_cases h1 : 1 ≤ t.val
    · rw [show (dat1 V c).leavesExact 0 t = owns (c : Thread nD τ) (ms1_0 t) fullShare ((dat1 V c).after 0 t) from by
      unfold Dat.leavesExact; rw [liveAt1_0 t], after1_0]
      rw [show (dat1 V c).leavesExact 1 t = owns (c : Thread nD τ) (ms1_1 t) fullShare ((dat1 V c).after 1 t) from by
      unfold Dat.leavesExact; rw [liveAt1_1 t], after1_1]
      rw [show (dat1 V c).leavesExact 2 t = owns (c : Thread nD τ) (ms1_2 t) fullShare ((dat1 V c).after 2 t) from by
      unfold Dat.leavesExact; rw [liveAt1_2 t], after1_2]
      rw [show (dat1 V c).leavesExact 3 t = owns (c : Thread nD τ) (ms1_3 t) fullShare ((dat1 V c).after 3 t) from by
      unfold Dat.leavesExact; rw [liveAt1_3 t], after1_3]
      rw [show (dat1 V c).leavesExact 4 t = owns (c : Thread nD τ) (ms1_4 t) fullShare ((dat1 V c).after 4 t) from by
      unfold Dat.leavesExact; rw [liveAt1_4 t], after1_4]
      rw [show (dat1 V c).leavesExact 5 t = owns (c : Thread nD τ) (ms1_5 t) fullShare ((dat1 V c).after 5 t) from by
      unfold Dat.leavesExact; rw [liveAt1_5_B t (fun h => h0 ((hcond1_0 t).mp h)) ((hcond1_1 t).mpr h1)], after1_5]
      rw [outsAt1_B V c t h0 h1]
      simp only [before1_5_B V c t h0 h1]
      unfold out1_B_4 out1_B_5; (try dsimp only)
      iintro ⟨HΦ, Ho, ⟨%d0, H0⟩, ⟨%d1, H1⟩, ⟨%d2, H2⟩, ⟨%d3, H3⟩, ⟨%d4, H4⟩, ⟨%d5, H5⟩⟩
      iapply ((kernelRun1_B c (grid1.coords t) _ _ _ _ _ _ _ _ _ _ _ _ (fun h => h0 ((hcond1_0 t).mp h)) ((hcond1_1 t).mpr h1) (iblk1 V c 0 t) (iblk1 V c 1 t) (iblk1 V c 2 t) (iblk1 V c 3 t) _).2.2 Set.univ _)
      isplitl [H0]; · iexact H0
      isplitl [H1]; · iexact H1
      isplitl [H2]; · iexact H2
      isplitl [H3]; · iexact H3
      isplitl [H4]; · iexists _; iexact H4
      isplitl [H5]; · iexact H5
      iintro ⟨H0, H1, H2, H3, ⟨%e4, H4⟩, ⟨%e5, H5⟩⟩
      isplitl [HΦ]; · iexact HΦ
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover1_B_4 c _ _ _ _ _ _ _ _ _ _ _ _ _ _ _ _ _ _ _ _)
      unfold owns; iexists _; isplitr
      swap; · iexact H5
      ipureintro; exact View.read_writes_of_cover _ _ _ _ _ (cover1_B_5 c _ _ _ _ _ _ _ _ _ _ _ _ _ _ _ _ _ _ _ _)
    · exfalso; omega

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The library's body obligation, at every point: the body's triple restated (Lib/Pipeline/FrameBody.lean `triple_restated`). -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

/-! # REGION 2 of @main: custom_call 2, `cc2_quant_y` (pipeline 2), at the entry contents `V` -/

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses -/

abbrev r2_0 : Rect S8x128 := Rect.unit (s := S8x128) ![0, 0] S8x128.size inb_S8x128_S8x128_0_0
abbrev r2_1 : Rect S512x6144 := Rect.unit (s := S512x6144) ![0, 0] S512x6144.size inb_S512x6144_S512x6144_0_0
abbrev r2_2 : Rect S2x8x128 := Rect.unit (s := S2x8x128) ![0, 0, 0] S1x8x128.size inb_S2x8x128_S1x8x128_0_0_0
abbrev r2_3 : Rect S2x8x128 := Rect.unit (s := S2x8x128) ![1, 0, 0] S1x8x128.size inb_S2x8x128_S1x8x128_1_0_0

/-! ## What the body leaves in each output window's buffer -/

/-! ### Values of the body that the stores' payloads, spelt out, would write more than once

    Each is a vector the body binds (often a part call's result), stated over the input windows' blocks and
    numbered on from the skeleton's payload functions (`k2_pay13` …, after `k2_pay12`), so that
    `out2_W` and the values after it name it instead of spelling it out (`unfold_out out2_W` opens a canon
    with them, `unfold_payloads` opens them with the payloads); the comment after each is the printed function's
    name for the value (a count appended where that name is bound again). -/

def k2_pay13 (x0 : Vec F S8x128 .f32) (x1 : Vec F S512x6144 .f32) : FVec F S8x128 .f32 :=
  k2_pay5 (View.ld x0 r2_0) -- `v8`
def k2_pay14 (x0 : Vec F S8x128 .f32) (x1 : Vec F S512x6144 .f32) : FVec F S8x128 .f32 :=
  k2_pay6 (View.ld x0 r2_0) -- `v10`
def k2_pay15 (x0 : Vec F S8x128 .f32) (x1 : Vec F S512x6144 .f32) : IVec S8x128 32 :=
  k2_pay7 (View.ld x0 r2_0) -- `v39`
def k2_pay16 (x0 : Vec F S8x128 .f32) (x1 : Vec F S512x6144 .f32) : IVec S8x128 32 :=
  k2_pay8 (View.ld x0 r2_0) -- `v41`
def k2_pay17 (x0 : Vec F S8x128 .f32) (x1 : Vec F S512x6144 .f32) : IVec S8x128 32 :=
  k2_pay9 (View.ld x0 r2_0) -- `v43`

/-- Window 2's staging buffer after the body, from the input windows' blocks: its 1 store as pieces, LAST
    FIRST (Lib/Pipeline/FrameBody.lean `View.canon`; the payloads are the skeleton's and the values stated above). -/
def out2_2 (x0 : Vec F S8x128 .f32) (x1 : Vec F S512x6144 .f32) : Vec F S512x6144 .fp8e4m3 :=
  View.canon [⟨r2_1, k2_pay1 (k2_pay12 (k2_pay13 x0 x1) (k2_pay14 x0 x1) (k2_pay15 x0 x1) (k2_pay16 x0 x1) (k2_pay17 x0 x1)) (View.ld x1 r2_1)⟩]

/-- Its stores tile the buffer (checked by evaluation), so they cover it. -/
theorem cover2_2 (p0 : Vec F S512x6144 .fp8e4m3) (y : S512x6144.Idx) :
    ∃ pc ∈ ([⟨r2_1, p0⟩] : List (View.Piece (Elt F) S512x6144 .fp8e4m3)), y ∈ pc.1.set :=
  View.cover_of_tiled [⟨r2_1, p0⟩] S512x6144.size (by rfl) y

/-- Window 3's staging buffer after the body, from the input windows' blocks: its 2 stores as pieces, LAST
    FIRST (Lib/Pipeline/FrameBody.lean `View.canon`; the payloads are the skeleton's and the values stated above). -/
def out2_3 (x0 : Vec F S8x128 .f32) (x1 : Vec F S512x6144 .f32) : Vec F S2x8x128 .f32 :=
  View.canon [⟨r2_3, k2_pay3 (k2_pay4 (View.ld x0 r2_0))⟩,
    ⟨r2_2, k2_pay2 (k2_pay11 (k2_pay13 x0 x1) (k2_pay14 x0 x1) (k2_pay15 x0 x1) (k2_pay16 x0 x1) (k2_pay17 x0 x1))⟩]

/-- Its stores tile the buffer (checked by evaluation), so they cover it. -/
theorem cover2_3 (p0 : Vec F S1x8x128 .f32) (p1 : Vec F S1x8x128 .f32) (y : S2x8x128.Idx) :
    ∃ pc ∈ ([⟨r2_3, p0⟩, ⟨r2_2, p1⟩] : List (View.Piece (Elt F) S2x8x128 .f32)), y ∈ pc.1.set :=
  View.cover_of_tiled [⟨r2_3, p0⟩, ⟨r2_2, p1⟩] S1x8x128.size (by rfl) y

/-! ## The body's triple -/

set_option maxHeartbeats 1000000 in
/-- The kernel body on whole staging memrefs, the inputs' at read contents `xW` and the outputs' at anything, runs to
    the continuation holding the inputs' as they were and each output's at `out2_W` of the inputs': the printed functions
    are their skeletons (`Gen.*_eq_skeleton`), which `sl_exec` runs (Lib/Exec.lean), through every part call. -/
theorem sound_kernel2 (c : Dev nD) (E : Set ℕ) (i : grid2.Coords) (arg1 : Memref sig .tc .vmem S8x128 .f32) (harg1 : arg1.IsWhole) (arg2 : Memref sig .tc .vmem S512x6144 .f32) (harg2 : arg2.IsWhole) (arg3 : Memref sig .tc .vmem S512x6144 .fp8e4m3) (harg3 : arg3.IsWhole) (arg4 : Memref sig .tc .vmem S2x8x128 .f32) (harg4 : arg4.IsWhole)
    (x0 : Vec F S8x128 .f32) (x1 : Vec F S512x6144 .f32) (K : PUnit → sProp 𝕄) :
    iprop(owns (c : Thread nD τ) arg1 fullShare x0 ∗ owns (c : Thread nD τ) arg2 fullShare x1 ∗ (∃ d, owns (c : Thread nD τ) arg3 fullShare d) ∗ (∃ d, owns (c : Thread nD τ) arg4 fullShare d)
        ∗ (iprop(owns (c : Thread nD τ) arg1 fullShare x0 ∗ owns (c : Thread nD τ) arg2 fullShare x1 ∗ owns (c : Thread nD τ) arg3 fullShare (out2_2 x0 x1) ∗ owns (c : Thread nD τ) arg4 fullShare (out2_3 x0 x1)) -∗ K ⟨⟩))
      ⊢ wp frame (wpE (defs₀ (F := F)) Variants.none c none) E (cc2_quant_y i arg1 harg1 arg2 harg2 arg3 harg3 arg4 harg4) K := by
  simp only [cc2_quant_y_eq_skeleton]; unfold cc2_quant_y_skel
  simp only [k2_part1_eq_skeleton, k2_part2_eq_skeleton]
  unfold owns
  iintro ⟨⟨%f0, %hf0, H0⟩, ⟨%f1, %hf1, H1⟩, ⟨%d2, %f2, -, H2⟩, ⟨%d3, %f3, -, H3⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    refine (View.read_writes_eq_canon _ _ _ (cover2_2 _)).trans ?_
    rfl
  iexists _; isplitr
  swap; · iexact H3
  ipureintro
  refine (View.read_writes_eq_canon _ _ _ (cover2_3 _ _)).trans ?_
  rfl

/-! ## The pipeline's proof data -/

/-- The proof data of pipeline 2 on core `c`: the arrays as the region finds them (`V`); after the body at
    point `t` each input's buffer at its block and each output's at `out2_W` of the input blocks; the invariant the
    class's (Lib/Pipeline/Frame.lean `ΦA`: the scoped rest and the generator register, untouched); nothing owed;
    full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
    | ⟨3, _⟩ => out2_3 (iblk2 V c 0 t) (iblk2 V c 1 t)
  Φ _ := Pipeline.ΦA spec2 c
  q _ := fullShare
  owed _ := 0

/-- The proof data's arrays are the region-entry contents, by projecting the definition (`dsimp`): a region record cites
    this for its arrays rather than have Lean unfold `V`, the fold through @main up to the region's entry. -/
theorem A_eq2 (c : Dev nD) (w : Fin cfg2.W) : (dat2 V c).A w = V c (Pipeline.arrRef spec2 w) := by
  dsimp only [dat2]

/-- What the body leaves, window by window (the proof data's `match` reduced by `dsimp`, never `rfl`: Lib/Pipeline.lean `Dat`). -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]
theorem after2_3 (c : Dev nD) (t : Fin cfg2.N) : (dat2 V c).after 3 t = out2_3 (iblk2 V c 0 t) (iblk2 V c 1 t) := by dsimp only [dat2]

/-- Each input's current staging buffer holds its block at every point, fetched there or not (`beforeK_W_of`). -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation, at a generic point -/

/-- What the body is called with at point `t` (Lib/Pipeline.lean `BodyObligation`'s precondition, the windows one by one), -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' memrefs hold their blocks (`before2_W`), so `sound_kernel2` applies; the invariant and
    the core's `owes` pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ (grid2.coords t) _ _ _ _ _ _ _ _ (iblk2 V c 0 t) (iblk2 V c 1 t) _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body table's row at point `t`'s slots is the body as `bodyAt2` spells it. -/
theorem defs₀_row2 (t : Fin cfg2.N) :
    defs₀ (F := F) .tc cfg2.body (cfg2.bodyArgs t (cfg2.slots t)) = bodyAt2 t := by
  unfold defs₀; rw [Defs.onTc_tc]

/-- The library's body obligation, at every point: the body's triple restated (Lib/Pipeline/FrameBody.lean `triple_restated`). -/
theorem body_obligation2 (c : Dev nD) : BodyObligation (dat2 (F := F) V c) (defs₀ (F := F)) Variants.none () Set.univ := fun t => by
  rw [bigSep_W2, bigSep_W2, defs₀_row2]
  exact triple_restated (sound_body2 V c t) rfl .rfl fun _ => .rfl

end Regions

end Cert.KernelIdeal.Gen

end
-- ==== Proof.KernelIdealRun.lean ====
/- @main of the kernel as host operations and three calls in order: the buffer contents at every boundary (`W0` the launch
   memory … `W5` the end), and the run: every execution ends with every unscoped buffer at `W5`. -/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.KernelIdealRegions
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.Pipeline.TableIdle
public import Idealize.ShloMosaic.Lib.WordCmp

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # THE RUN: @main's segments from the launch to the return (Lib/Pipeline/Regions.lean `θ_run_regions_kit`) -/

/-- @main's argument arrays, as TensorCore references: what the frame claim reads back. -/
abbrev argRefs : List (Ref sig .tc) := [main_arg0, main_arg1, main_arg2]

/-! ## The host stretches: none allocates a buffer, and each lists the references its operations write, in order,
    so that a reference absent from the list keeps its contents across the stretch (Lib/StableHlo/Run.lean
    `after_of_writes_sub`) -/

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_v0, main_v1]
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays (checked: each argument against each reference it writes). -/
theorem hostOps0_args : ∀ a ∈ argRefs, a ∉ hostOps0_W := ListAll.forall_mem_of_all_decide (by decide +kernel)

/-- No operation of `hostOps3` allocates a buffer. -/
theorem hostOps3_fresh : (hostOps3 : List (HloOp τ sig (Elt F))).Forall fun op => op.fresh = ∅ := by
  simp only [List.Forall]; repeat' constructor
/-- The reference each operation of `hostOps3` writes, in order. -/
abbrev hostOps3_W : List (Ref sig .tc) := [main_v5, main_v6, main_v7, main_v8, main_v9, main_v10, main_v11]
theorem hostOps3_writes : (hostOps3 : List (HloOp τ sig (Elt F))).Forall fun op => op.writes ⊆ (hostOps3_W.map (Proc.devRef (τ := τ) .tc)).toFinset :=
  StableHlo.forall_writes_sub_of_map rfl
/-- `hostOps3` writes none of the argument arrays (checked: each argument against each reference it writes). -/
theorem hostOps3_args : ∀ a ∈ argRefs, a ∉ hostOps3_W := ListAll.forall_mem_of_all_decide (by decide +kernel)

/-! ## The buffer contents at each segment boundary: a fold through @main, and what each item leaves unchanged -/

/-- Core `c`'s buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- After `hostOps0` (region 0's entry). -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, each output's write-backs
    folded: `Dat.arrAt … N`), every other buffer as entered (Lib/Pipeline/FrameSuffix.lean `withArrays`) (region 1's entry). -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A reference that is none of region 0's OUTPUT arrays keeps its entry contents across it: an input window's
    array is never written back (`Dat.arrAt_in`, `A_eq0`); any other buffer is left as is. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`): the two hypotheses of Lib/Pipeline/RegionsLoop.lean `unscopedBufs_of_arrays`. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At region 1's exit: its arrays at what the pipeline leaves (the inputs as entered, each output's write-backs
    folded: `Dat.arrAt … N`), every other buffer as entered (Lib/Pipeline/FrameSuffix.lean `withArrays`) (region 2's entry). -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- A reference that is none of region 1's OUTPUT arrays keeps its entry contents across it: an input window's
    array is never written back (`Dat.arrAt_in`, `A_eq1`); any other buffer is left as is. -/
theorem W3_of (c : Dev nD) (r : Ref sig .tc) (h : ∀ w : Fin cfg1.W, Pipeline.arrRef spec1 w = r → (cfg1.win w).isOut = false) :
    W3 m ρ c (Proc.devRef .tc r) = W2 m ρ c (Proc.devRef .tc r) := by
  by_cases hw : ∃ w : Fin cfg1.W, Pipeline.arrRef spec1 w = r
  · obtain ⟨w, rfl⟩ := hw
    exact (W3_arr m ρ c w).trans (((dat1 (V2 m ρ) c).arrAt_in w (h w rfl) _).trans (A_eq1 (V2 m ρ) c w))
  · exact W3_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
theorem W3_args (c : Dev nD) : ∀ a ∈ argRefs, W3 m ρ c (Proc.devRef .tc a) = m ((c : Thread nD τ).loc a) :=
  fun a ha => (W3_of m ρ c a (argsIn1 a ha)).trans (W2_args m ρ c a ha)
/-- The same read at the TensorCore's references (region 1's exit contents). -/
abbrev V3 : (c : Dev nD) → (b : Ref sig .tc) → Buf (Elt F) ((c : Thread nD τ).loc b) := fun c b => W3 m ρ c b
/-- At region 1's exit each of its arrays holds what the pipeline leaves (`hF1`) and every other buffer what it
    held at entry (`hrest1`): the two hypotheses of Lib/Pipeline/RegionsLoop.lean `unscopedBufs_of_arrays`. -/
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- At region 2's exit: its arrays at what the pipeline leaves (the inputs as entered, each output's write-backs
    folded: `Dat.arrAt … N`), every other buffer as entered (Lib/Pipeline/FrameSuffix.lean `withArrays`). -/
def W4 (c : Dev nD) : Valuation τ sig (Elt F) :=
  Pipeline.withArrays spec2 c (W3 m ρ c) fun w => (dat2 (V3 m ρ) c).arrAt w cfg2.N
theorem W4_arr (c : Dev nD) (w : Fin cfg2.W) :
    W4 m ρ c (Proc.devRef .tc (Pipeline.arrRef spec2 w)) = (dat2 (V3 m ρ) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m ρ c (Proc.devRef .tc b) = W3 m ρ c (Proc.devRef .tc b) := by
  unfold W4; exact Pipeline.withArrays_of_ne spec2 c _ _ b hb
/-- A reference that is none of region 2's OUTPUT arrays keeps its entry contents across it: an input window's
    array is never written back (`Dat.arrAt_in`, `A_eq2`); any other buffer is left as is. -/
theorem W4_of (c : Dev nD) (r : Ref sig .tc) (h : ∀ w : Fin cfg2.W, Pipeline.arrRef spec2 w = r → (cfg2.win w).isOut = false) :
    W4 m ρ c (Proc.devRef .tc r) = W3 m ρ c (Proc.devRef .tc r) := by
  by_cases hw : ∃ w : Fin cfg2.W, Pipeline.arrRef spec2 w = r
  · obtain ⟨w, rfl⟩ := hw
    exact (W4_arr m ρ c w).trans (((dat2 (V3 m ρ) c).arrAt_in w (h w rfl) _).trans (A_eq2 (V3 m ρ) c w))
  · exact W4_of_ne m ρ c r fun w e => hw ⟨w, e⟩
/-- Every argument among region 2's arrays is an input window's (checked: each argument against each window). -/
theorem argsIn2 : ∀ a ∈ argRefs, ∀ w : Fin cfg2.W, Pipeline.arrRef spec2 w = a → (cfg2.win w).isOut = false :=
  ListAll.forall_mem_of_all_decide (by decide +kernel)
theorem W4_args (c : Dev nD) : ∀ a ∈ argRefs, W4 m ρ c (Proc.devRef .tc a) = m ((c : Thread nD τ).loc a) :=
  fun a ha => (W4_of m ρ c a (argsIn2 a ha)).trans (W3_args m ρ c a ha)
/-- The same read at the TensorCore's references (region 2's exit contents). -/
abbrev V4 : (c : Dev nD) → (b : Ref sig .tc) → Buf (Elt F) ((c : Thread nD τ).loc b) := fun c b => W4 m ρ c b
/-- At region 2's exit each of its arrays holds what the pipeline leaves (`hF2`) and every other buffer what it
    held at entry (`hrest2`): the two hypotheses of Lib/Pipeline/RegionsLoop.lean `unscopedBufs_of_arrays`. -/
theorem hF2 (c : Dev nD) (w : Fin cfg2.W) : (dat2 (V3 m ρ) c).arrAt w cfg2.N = V4 m ρ c (Pipeline.arrRef spec2 w) :=
  (W4_arr m ρ c w).symm
theorem hrest2 (c : Dev nD) : ∀ b, b ∉ Finset.univ.image (Pipeline.arrRef spec2) → V4 m ρ c b = V3 m ρ c b :=
  fun b hb => W4_of_ne m ρ c b fun w e => hb (Finset.mem_image.mpr ⟨w, Finset.mem_univ _, e⟩)

/-- After `hostOps3`. -/
abbrev W5 : Dev nD → Valuation τ sig (Elt F) := fun c => StableHlo.after hostOps3 (W4 m ρ c)
/-- A reference `hostOps3` does not write keeps its contents across it. -/
theorem W5_of (c : Dev nD) (r : Ref sig .tc) (h : r ∉ hostOps3_W) : W5 m ρ c (Proc.devRef .tc r) = W4 m ρ c (Proc.devRef .tc r) :=
  StableHlo.after_of_writes_sub hostOps3 _ hostOps3_writes h
theorem W5_args (c : Dev nD) : ∀ a ∈ argRefs, W5 m ρ c (Proc.devRef .tc a) = m ((c : Thread nD τ).loc a) :=
  fun a ha => (W5_of m ρ c a (hostOps3_args a ha)).trans (W4_args m ρ c a ha)

/-! ### The arguments end as launched: no host stretch writes one and no region may change one (a region reads it
    through an input window or bypasses it) -/

theorem W5_main_arg0 (c : Dev nD) : W5 m ρ c (Proc.devRef .tc main_arg0) = m ((c : Thread nD τ).loc main_arg0) :=
  W5_args m ρ c main_arg0 (by decide)
theorem W5_main_arg1 (c : Dev nD) : W5 m ρ c (Proc.devRef .tc main_arg1) = m ((c : Thread nD τ).loc main_arg1) :=
  W5_args m ρ c main_arg1 (by decide)
theorem W5_main_arg2 (c : Dev nD) : W5 m ρ c (Proc.devRef .tc main_arg2) = m ((c : Thread nD τ).loc main_arg2) :=
  W5_args m ρ c main_arg2 (by decide)

/-! ## The proof data family and the thread state -/

/-- The prefetched tables' admissible contents: no pipeline has a table. -/
abbrev adm : (p : Fin 3) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
  | ⟨2, _⟩ => fun c => dat2 (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W5`, the generator register at some state. -/
abbrev Tₙ (c : Dev nD) : sProp 𝕄 := iprop(StableHlo.held (c : Thread nD τ) (Pipeline.ucRefs τ sig) (W5 m ρ c) ∗ ∃ r, prngReg c r)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W1`, left at `W2`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 1 (custom_call 1) over the thread state: entered from every unscoped buffer at `W2`, left at `W3`
    (what the next segment is entered from). Its arrays split out of the unscoped buffers
    (`arrays_of_unscopedBufs`) and put back at the exit contents (`unscopedBufs_of_arrays`); the generator register into the
    class invariant `ΦA` and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) (A_eq1 (V2 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 2 (custom_call 2) over the thread state: entered from every unscoped buffer at `W3`, left at `W4`
    (what the next segment is entered from). Its arrays split out of the unscoped buffers
    (`arrays_of_unscopedBufs`) and put back at the exit contents (`unscopedBufs_of_arrays`); the generator register into the
    class invariant `ΦA` and out; nothing owed; no semaphore of the kernel's own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V3 m ρ) c).loose
  hwaits := Pipeline.hwaits_of_owed_zero _ _ _ _ L lv 2 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec2 c (V3 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V3 m ρ c) (A_eq2 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V3 m ρ c) (V4 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's 5 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .region (reg2 m ρ),
    .host (hseg hostOps3 hostOps3_sub hostOps3_fresh (W4 m ρ)) ]
/-- @main IS the run of the segments: `Gen.main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

-- the launch theorem's implicit arguments are found by unifying its conclusion with this one
set_option backward.isDefEq.respectTransparency.types false in
/-- THE RUN: from any memory with zero counters every execution of @main terminates, nothing faulting, and every final
    state holds every unscoped buffer at the last boundary's contents `W5` and every semaphore counter at zero. -/
theorem run : θ_run defs (onTc (τ := τ) (main (F := F))) ⟨m, fun _ => 0, ρ⟩ (fun r => (∀ c : Dev nD,
      ∀ b ∈ Pipeline.ucRefs τ sig, r.2.mem (((c : Thread nD τ)).1, b) = W5 m ρ c b)
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz => ⟨h, funext fun g => hz g (.inr (no_unscoped g.2))⟩)

/-- THE FRAME: the argument arrays end as launched and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c =>
      ⟨(h.1 c _ (mem_uc main_arg0 (by decide))).trans (W5_main_arg0 m ρ c),
       (h.1 c _ (mem_uc main_arg1 (by decide))).trans (W5_main_arg1 m ρ c),
       (h.1 c _ (mem_uc main_arg2 (by decide))).trans (W5_main_arg2 m ρ c)⟩, h.2⟩) (run m ρ)

end Cert.KernelIdeal.Gen

end
-- ==== Proof.Scale.lean ====
/- The power-of-two scale of the quantiser, as mathematics on extended reals. A magnitude `a` has the quotient
   `f = a * (1/448)`; its exponent field is found in the kernel by eight comparisons with powers of two and in the
   reference by a floor of a logarithm. Both are the same number, `expo a`, and the scale and its inverse are the powers
   of two `sc a` and `iv a`. -/
module

public import Idealize.ShloMosaic.PureOps.Ideal
public import Idealize.ShloMosaic.Lib.Pointwise

@[expose] public section

set_option maxRecDepth 16384

noncomputable section

namespace Cert.Scale

open Idealize.ShloMosaic

/-- The extended real whose single-precision pattern has exponent field `b` and nothing else. -/
def pw (b : BitVec 32) : EReal := Ideal.ofBits .f32 (IntOp.shli .vector b 23#32)

theorem bits_pw : ∀ t : Fin 256,
    IntOp.shli .vector (BitVec.ofNat 32 t.val) 23#32 = BitVec.ofNat 32 (t.val * 2 ^ 23) := by decide +kernel

theorem fields_pw : ∀ t : Fin 256,
    ((BitVec.ofNat 32 (t.val * 2 ^ 23)).extractLsb' 31 1 == 1#1) = false
    ∧ ((BitVec.ofNat 32 (t.val * 2 ^ 23)).extractLsb' 23 8).toNat = t.val
    ∧ ((BitVec.ofNat 32 (t.val * 2 ^ 23)).extractLsb' 0 23).toNat = 0 := by decide +kernel

/-- The threshold of exponent field `t`: `2^(t-127)`, and plus infinity past 254. -/
def thr (t : ℕ) : EReal := if t ≤ 254 then (((2 : ℝ) ^ ((t : ℤ) - 127) : ℝ) : EReal) else ⊤

theorem pw_eq (t : ℕ) (h1 : 1 ≤ t) (h2 : t ≤ 255) : pw (BitVec.ofNat 32 t) = thr t := by
  have hb := bits_pw ⟨t, by omega⟩
  obtain ⟨e1, e2, e3⟩ := fields_pw ⟨t, by omega⟩
  simp only at hb e1 e2 e3
  unfold pw thr
  rw [hb]
  show Ideal.ieee 8 23 _ = _
  unfold Ideal.ieee
  simp only [show (8 + 23 : ℕ) = 31 from rfl, e1, e2, e3]
  by_cases h : t ≤ 254
  · rw [if_neg (by omega), if_neg (by omega), if_pos h]
    congr 1
    have : ((t : ℤ) - 127) = 23 + ((t : ℤ) - (2 ^ (8 - 1) - 1) - (23 : ℕ)) := by norm_num
    rw [this, zpow_add₀ (by norm_num : (2 : ℝ) ≠ 0)]
    norm_num
  · rw [if_pos (by omega), if_neg h]; simp

theorem thr_mono {s t : ℕ} (h : s ≤ t) : thr s ≤ thr t := by
  unfold thr
  by_cases ht : t ≤ 254
  · rw [if_pos ht, if_pos (by omega)]
    have : (s : ℤ) - 127 ≤ (t : ℤ) - 127 := by omega
    exact EReal.coe_le_coe_iff.2 (zpow_le_zpow_right₀ (by norm_num : (1 : ℝ) ≤ 2) this)
  · rw [if_neg ht]; exact le_top

open Classical in
/-- The greatest exponent field whose threshold is at most `x` (0 where there is none). -/
def fld (x : EReal) : ℕ := Nat.findGreatest (fun t => t = 0 ∨ thr t ≤ x) 255

theorem fld_le (x : EReal) : fld x ≤ 255 := Nat.findGreatest_le _

theorem thr_le_iff (x : EReal) (t : ℕ) (h1 : 1 ≤ t) (h2 : t ≤ 255) : thr t ≤ x ↔ t ≤ fld x := by
  classical
  constructor
  · intro h; exact Nat.le_findGreatest h2 (.inr h)
  · intro h
    have : fld x = 0 ∨ thr (fld x) ≤ x :=
      Nat.findGreatest_spec (P := fun t => t = 0 ∨ thr t ≤ x) (Nat.zero_le 255) (.inl rfl)
    rcases this with h0 | h0
    · omega
    · exact (thr_mono h).trans h0

/-! ## The kernel's search -/

/-- One comparison of the search: set the bit `t` of the field where the power of two with it set is at most `x`. -/
def step (x : EReal) (b t : BitVec 32) : BitVec 32 :=
  Scalar.select (FloatOps.cmpf (F := Ideal) (φ := .f32) .oge x (Ideal.ofBits .f32 (IntOp.shli .vector (IntOp.addi b t) 23#32)))
    (IntOp.addi b t) b

theorem step_eq (x : EReal) (b t : ℕ) (h1 : 1 ≤ t) (h2 : b + t ≤ 255) :
    step x (BitVec.ofNat 32 b) (BitVec.ofNat 32 t) = BitVec.ofNat 32 (if b + t ≤ fld x then b + t else b) := by
  have ha : IntOp.addi (BitVec.ofNat 32 b) (BitVec.ofNat 32 t) = BitVec.ofNat 32 (b + t) := by
    show BitVec.ofNat 32 b + BitVec.ofNat 32 t = _
    rw [← BitVec.ofNat_add]
  unfold step
  rw [ha]
  have hc : FloatOps.cmpf (F := Ideal) (φ := .f32) .oge x (pw (BitVec.ofNat 32 (b + t)))
      = if thr (b + t) ≤ x then 1#1 else 0#1 := by
    rw [pw_eq _ (by omega) h2]
    show Ideal.cmp .oge x _ = _
    unfold Ideal.cmp
    by_cases h : thr (b + t) ≤ x <;> simp [h]
  unfold pw at hc
  rw [hc]
  by_cases h : b + t ≤ fld x
  · rw [if_pos ((thr_le_iff x _ (by omega) h2).2 h), if_pos h]; rfl
  · rw [if_neg (fun h' => h ((thr_le_iff x _ (by omega) h2).1 h')), if_neg h]; rfl

/-- The search's first four bits. -/
def search4 (x : EReal) : BitVec 32 := step x (step x (step x (step x 0#32 128#32) 64#32) 32#32) 16#32
/-- The whole search. -/
def search8 (x : EReal) : BitVec 32 := step x (step x (step x (step x (search4 x) 8#32) 4#32) 2#32) 1#32

theorem search8_eq (x : EReal) : search8 x = BitVec.ofNat 32 (fld x) := by
  have hk := fld_le x
  unfold search8 search4
  generalize hK : fld x = k at hk
  have e : ∀ b t : ℕ, 1 ≤ t → b + t ≤ 255 →
      step x (BitVec.ofNat 32 b) (BitVec.ofNat 32 t) = BitVec.ofNat 32 (if b + t ≤ k then b + t else b) := by
    intro b t h1 h2; rw [step_eq x b t h1 h2, hK]
  have q : ∀ b t B : ℕ, b ≤ B → (if b + t ≤ k then b + t else b) ≤ B + t := by
    intro b t B h; split <;> omega
  have b1 := q 0 128 0 le_rfl
  have b2 := q _ 64 _ b1
  have b3 := q _ 32 _ b2
  have b4 := q _ 16 _ b3
  have b5 := q _ 8 _ b4
  have b6 := q _ 4 _ b5
  have b7 := q _ 2 _ b6
  rw [e 0 128 (by omega) (by omega), e _ 64 (by omega) (by omega), e _ 32 (by omega) (by omega), e _ 16 (by omega) (by omega),
    e _ 8 (by omega) (by omega), e _ 4 (by omega) (by omega), e _ 2 (by omega) (by omega), e _ 1 (by omega) (by omega)]
  congr 1
  clear b1 b2 b3 b4 b5 b6 b7 q e
  have key : ∀ k : Fin 256, (let s := fun (b t : ℕ) => if b + t ≤ k.val then b + t else b
    s (s (s (s (s (s (s (s 0 128) 64) 32) 16) 8) 4) 2) 1) = k.val := by decide +kernel
  exact key ⟨k, by omega⟩

/-- The constant `1/448` of the programs. -/
def c448 : EReal := Ideal.ofBits .f32 0x3B124925#32

open Classical in
/-- The exponent field that the quantiser of magnitude `a` uses: that of `a * (1/448)`, and 126 (scale one) where `a` is
    zero or the field is out of the range 1 … 252. -/
def expo (a : EReal) : ℕ :=
  if a = 0 ∨ fld (a * c448) = 0 ∨ 253 ≤ fld (a * c448) then 126 else fld (a * c448)

theorem expo_bounds (a : EReal) : 1 ≤ expo a ∧ expo a ≤ 252 := by
  unfold expo; split <;> omega

/-- The scale of magnitude `a`. -/
def sc (a : EReal) : EReal := (((2 : ℝ) ^ ((expo a : ℤ) - 126) : ℝ) : EReal)
/-- The inverse of the scale. -/
def iv (a : EReal) : EReal := (((2 : ℝ) ^ (126 - (expo a : ℤ)) : ℝ) : EReal)

/-- The kernel's field after its corrections, from the magnitude `a`, its quotient `x` and the search's result `s`. -/
def fix (a x : EReal) (s : BitVec 32) : BitVec 32 :=
  let b : BitVec 32 := Scalar.select (FloatOps.cmpf (F := Ideal) (φ := .f32) .oge x (Ideal.ofBits .f32 0x7E800000#32)) 255#32 s
  Scalar.select (IntOp.ori (IntOp.ori (FloatOps.cmpf (F := Ideal) (φ := .f32) .oeq a (Ideal.ofBits .f32 0x00000000#32))
    (IntOp.cmpi .eq b 0#32)) (IntOp.cmpi .eq b 255#32)) 126#32 b

theorem cmp_oeq (a b : EReal) : FloatOps.cmpf (F := Ideal) (φ := .f32) .oeq a b = if a = b then 1#1 else 0#1 := by
  show Ideal.cmp .oeq a b = _
  unfold Ideal.cmp
  by_cases h : a = b <;> simp [h]

theorem cmp_oge (a b : EReal) : FloatOps.cmpf (F := Ideal) (φ := .f32) .oge a b = if b ≤ a then 1#1 else 0#1 := by
  show Ideal.cmp .oge a b = _
  unfold Ideal.cmp
  by_cases h : b ≤ a <;> simp [h]

theorem cmp_olt (a b : EReal) : FloatOps.cmpf (F := Ideal) (φ := .f32) .olt a b = if a < b then 1#1 else 0#1 := by
  show Ideal.cmp .olt a b = _
  unfold Ideal.cmp
  by_cases h : a < b <;> simp [h]

theorem thr253 : Ideal.ofBits .f32 0x7E800000#32 = thr 253 := by
  rw [← pw_eq 253 (by norm_num) (by norm_num)]; rfl
theorem thr1 : Ideal.ofBits .f32 0x00800000#32 = thr 1 := by
  rw [← pw_eq 1 (by norm_num) (by norm_num)]; rfl

theorem fix_eq (a : EReal) : fix a (a * c448) (search8 (a * c448)) = BitVec.ofNat 32 (expo a) := by
  have hk := fld_le (a * c448)
  unfold fix
  rw [search8_eq, thr253, cmp_oge, cmp_oeq, Ideal.ofBits_zero_f32]
  unfold expo
  have h253 := thr_le_iff (a * c448) 253 (by norm_num) (by norm_num)
  generalize fld (a * c448) = k at *
  simp only [h253]
  have d0 : ∀ k : Fin 256, IntOp.cmpi .eq (BitVec.ofNat 32 k.val) 0#32 = (if k.val = 0 then 1#1 else 0#1)
    ∧ IntOp.cmpi .eq (BitVec.ofNat 32 k.val) 255#32 = (if k.val = 255 then 1#1 else 0#1) := by decide +kernel
  obtain ⟨e0, e1⟩ := d0 ⟨k, by omega⟩
  simp only at e0 e1
  by_cases ha : a = 0
  · simp only [ha, true_or, if_true]
    show Scalar.select (IntOp.ori (IntOp.ori 1#1 _) _) _ _ = _
    have : ∀ p q : BitVec 1, IntOp.ori (IntOp.ori 1#1 p) q = 1#1 := by decide
    rw [this]; rfl
  · simp only [ha, false_or, if_false]
    by_cases h3 : 253 ≤ k
    · rw [if_pos h3, if_pos (Or.inr h3)]
      show Scalar.select (IntOp.ori (IntOp.ori 0#1 0#1) 1#1) 126#32 255#32 = _
      rfl
    · rw [if_neg h3]
      show Scalar.select (IntOp.ori (IntOp.ori _ (IntOp.cmpi .eq (BitVec.ofNat 32 k) 0#32)) (IntOp.cmpi .eq (BitVec.ofNat 32 k) 255#32)) _ (BitVec.ofNat 32 k) = _
      rw [e0, e1, if_neg (show ¬ k = 255 by omega)]
      by_cases h0 : k = 0
      · rw [if_pos h0, if_pos (Or.inl h0)]; rfl
      · rw [if_neg h0, if_neg (by omega)]; rfl

/-- The kernel's scale: the pattern with the field plus one. -/
theorem kernel_sc (a : EReal) :
    Ideal.ofBits .f32 (IntOp.shli .vector (IntOp.addi (fix a (a * c448) (search8 (a * c448))) 1#32) 23#32) = sc a := by
  obtain ⟨h1, h2⟩ := expo_bounds a
  rw [fix_eq]
  have ha : IntOp.addi (BitVec.ofNat 32 (expo a)) 1#32 = BitVec.ofNat 32 (expo a + 1) := by
    show BitVec.ofNat 32 _ + BitVec.ofNat 32 1 = _
    rw [← BitVec.ofNat_add]
  rw [ha]
  refine (pw_eq (expo a + 1) (by omega) (by omega)).trans ?_
  unfold thr sc
  rw [if_pos (by omega)]
  congr 2
  push_cast; ring

/-- The kernel's inverse scale: the pattern with the field 253 minus it. -/
theorem kernel_iv (a : EReal) :
    Ideal.ofBits .f32 (IntOp.shli .vector (IntOp.subi 253#32 (fix a (a * c448) (search8 (a * c448)))) 23#32) = iv a := by
  obtain ⟨h1, h2⟩ := expo_bounds a
  rw [fix_eq]
  have d : ∀ k : Fin 253, IntOp.subi 253#32 (BitVec.ofNat 32 k.val) = BitVec.ofNat 32 (253 - k.val) := by decide +kernel
  rw [show IntOp.subi 253#32 (BitVec.ofNat 32 (expo a)) = BitVec.ofNat 32 (253 - expo a) from d ⟨expo a, by omega⟩]
  refine (pw_eq (253 - expo a) (by omega) (by omega)).trans ?_
  unfold thr iv
  rw [if_pos (by omega)]
  congr 2
  push_cast [Nat.cast_sub (show expo a ≤ 253 by omega)]; ring

/-! ## The reference's logarithm -/

/-- The reference's exponent of magnitude `a`. -/
def refE (a : EReal) : EReal :=
  Scalar.select (FloatOps.cmpf (F := Ideal) (φ := .f32) .oeq a (Ideal.ofBits .f32 0x00000000#32)) (Ideal.ofBits .f32 0x00000000#32)
    (Scalar.select (IntOp.andi (FloatOps.cmpf (F := Ideal) (φ := .f32) .oge (a * c448) (Ideal.ofBits .f32 0x00800000#32))
        (FloatOps.cmpf (F := Ideal) (φ := .f32) .olt (a * c448) (Ideal.ofBits .f32 0x7E800000#32)))
      (Ideal.liftRound Int.floor (Ideal.div (Ideal.log (a * c448)) (Ideal.log (Ideal.ofBits .f32 0x40000000#32))) + Ideal.ofBits .f32 0x3F800000#32)
      (Ideal.ofBits .f32 0x00000000#32))

theorem ofBits_two : Ideal.ofBits .f32 0x40000000#32 = ((2 : ℝ) : EReal) := by
  have h := pw_eq 128 (by norm_num) (by norm_num)
  have : Ideal.ofBits .f32 0x40000000#32 = thr 128 := by rw [← h]; rfl
  rw [this]; unfold thr; rw [if_pos (by norm_num)]; norm_num

/-- Between two consecutive powers of two, the floor of the base-two logarithm is the lower exponent. -/
theorem floor_log {r : ℝ} {n : ℤ} (h1 : (2 : ℝ) ^ n ≤ r) (h2 : r < (2 : ℝ) ^ (n + 1)) : ⌊Real.log r / Real.log 2⌋ = n := by
  have hr : 0 < r := lt_of_lt_of_le (by positivity) h1
  rw [Int.floor_eq_iff]
  have hl : 0 < Real.log 2 := Real.log_pos (by norm_num)
  constructor
  · rw [le_div_iff₀ hl, ← Real.log_zpow]
    exact Real.log_le_log (by positivity) h1
  · rw [div_lt_iff₀ hl]
    have : ((n : ℝ) + 1) * Real.log 2 = Real.log ((2 : ℝ) ^ (n + 1)) := by rw [Real.log_zpow]; push_cast; ring
    rw [this]
    exact Real.log_lt_log hr h2

/-- The reference's exponent is the field less 126. -/
theorem refE_eq (a : EReal) : refE a = (((expo a : ℤ) - 126 : ℤ) : ℝ) := by
  have hk := fld_le (a * c448)
  unfold refE expo
  rw [cmp_oeq, cmp_oge, cmp_olt, Ideal.ofBits_zero_f32, thr1, thr253]
  have h1 := thr_le_iff (a * c448) 1 (by norm_num) (by norm_num)
  have h253 := thr_le_iff (a * c448) 253 (by norm_num) (by norm_num)
  have hlt : a * c448 < thr 253 ↔ ¬ 253 ≤ fld (a * c448) := by rw [← h253, not_le]
  by_cases ha : a = 0
  · simp only [ha, true_or, if_true]
    show (0 : EReal) = _
    norm_num
  · simp only [ha, false_or, if_false]
    show Scalar.select (IntOp.andi _ _) _ _ = _
    by_cases hc : fld (a * c448) = 0 ∨ 253 ≤ fld (a * c448)
    · rw [if_pos hc]
      have : IntOp.andi (if thr 1 ≤ a * c448 then 1#1 else 0#1) (if a * c448 < thr 253 then 1#1 else 0#1) = 0#1 := by
        rcases hc with h | h
        · rw [if_neg (by rw [h1]; omega)]; split <;> rfl
        · rw [if_neg (c := a * c448 < thr 253) (by rw [hlt]; omega)]; split <;> rfl
      rw [this]
      show (0 : EReal) = _
      norm_num
    · rw [if_neg hc]
      have hc' : 1 ≤ fld (a * c448) ∧ fld (a * c448) ≤ 252 := by omega
      rw [if_pos (h1.2 hc'.1), if_pos (hlt.2 (by omega))]
      show _ + _ = _
      have lo := (thr_le_iff (a * c448) (fld (a * c448)) hc'.1 hk).2 le_rfl
      have hi : a * c448 < thr (fld (a * c448) + 1) := by
        rw [← not_le, thr_le_iff _ _ (by omega) (by omega)]; omega
      generalize fld (a * c448) = k at *
      generalize a * c448 = f at *
      unfold thr at lo hi
      rw [if_pos (by omega)] at lo hi
      induction f using EReal.rec with
      | bot => exact absurd lo (by simp)
      | top => exact absurd hi (by simp)
      | coe r =>
        have lo' : (2 : ℝ) ^ ((k : ℤ) - 127) ≤ r := by exact_mod_cast lo
        have hi' : r < (2 : ℝ) ^ (((k : ℤ) - 127) + 1) := by
          have : r < (2 : ℝ) ^ (((k + 1 : ℕ) : ℤ) - 127) := by exact_mod_cast hi
          rw [show ((k : ℤ) - 127) + 1 = ((k + 1 : ℕ) : ℤ) - 127 by push_cast; ring]
          exact this
        have hr : 0 < r := lt_of_lt_of_le (by positivity) lo'
        have e1 : Ideal.log (r : EReal) = (Real.log r : EReal) := by
          show (if r ≤ 0 then ⊥ else (Real.log r : EReal)) = _
          rw [if_neg (by linarith)]
        have e2 : Ideal.log (Ideal.ofBits .f32 0x40000000#32) = (Real.log 2 : EReal) := by
          rw [ofBits_two]
          show (if (2 : ℝ) ≤ 0 then ⊥ else (Real.log 2 : EReal)) = _
          rw [if_neg (by norm_num)]
        have hl : Real.log 2 ≠ 0 := (Real.log_pos (by norm_num)).ne'
        have e3 : Ideal.div (Real.log r : EReal) (Real.log 2 : EReal) = ((Real.log r / Real.log 2 : ℝ) : EReal) := by
          unfold Ideal.div
          rw [if_neg (by exact_mod_cast hl), ← EReal.coe_inv, ← EReal.coe_mul, div_eq_mul_inv]
        rw [e1, e2, e3]
        show ((⌊Real.log r / Real.log 2⌋ : ℝ) : EReal) + _ = _
        rw [floor_log lo' hi', Ideal.ofBits_one_f32, ← EReal.coe_one, ← EReal.coe_add]
        congr 1
        push_cast; ring

theorem exp2_int (n : ℤ) : Ideal.exp2 (((n : ℤ) : ℝ) : EReal) = (((2 : ℝ) ^ n : ℝ) : EReal) := by
  show ((Real.rpow 2 (n : ℝ) : ℝ) : EReal) = _
  congr 1
  exact Real.rpow_intCast 2 n

theorem ref_sc (a : EReal) : Ideal.exp2 (refE a) = sc a := by
  rw [refE_eq, exp2_int]; rfl

theorem ref_iv (a : EReal) : Ideal.exp2 (Ideal.ofBits .f32 0x00000000#32 - refE a) = iv a := by
  rw [refE_eq, Ideal.ofBits_zero_f32, zero_sub, ← EReal.coe_neg]
  have : -((((expo a : ℤ) - 126 : ℤ)) : ℝ) = ((126 - (expo a : ℤ) : ℤ) : ℝ) := by push_cast; ring
  rw [this, exp2_int]; rfl

/-- The codes' clip to the format's range. -/
def clip (v : EReal) : EReal :=
  min (Ideal.ofBits .f32 0x43E00000#32) (max (Ideal.ofBits .f32 0xC3E00000#32) v)

/-- The gated product: the logistic gate of the first factor, times the second. -/
def gate (g u : EReal) : EReal := g * Ideal.logistic g * u

/-- The greatest magnitude of a finite family. -/
def mag {ι : Type*} [Fintype ι] (f : ι → EReal) : EReal :=
  Finset.univ.fold max (Ideal.ofBits .f32 0xFF800000#32) fun i => max (f i) (-(f i))

theorem ofBits_ninf : Ideal.ofBits .f32 0xFF800000#32 = ⊥ := by
  have g : ∀ b : BitVec 32, Ideal.ofBits .f32 b = Ideal.ieee 8 23 b := fun _ => rfl
  rw [g]
  unfold Ideal.ieee
  have : (((0xFF800000#32 : BitVec 32).extractLsb' (8 + 23) 1 == 1#1) = true)
    ∧ ((0xFF800000#32 : BitVec 32).extractLsb' 23 8).toNat = 255
    ∧ ((0xFF800000#32 : BitVec 32).extractLsb' 0 23).toNat = 0 := by decide +kernel
  simp [this]

/-- The greatest magnitude is below a bound exactly where every magnitude is. -/
theorem mag_le {ι : Type*} [Fintype ι] (f : ι → EReal) (z : EReal) : mag f ≤ z ↔ ∀ i, max (f i) (-(f i)) ≤ z := by
  unfold mag
  rw [Finset.fold_max_le, ofBits_ninf]
  simp

end Cert.Scale
end
-- ==== Proof.Spec.lean ====
/- The mathematics of the problem over the extended reals, as plain functions of indices: the quantised activations, the gated
   product, its greatest magnitude, and the quantised product. -/
module

public import proofs.«01_k».proof.Proof.Scale

@[expose] public section

noncomputable section

namespace Cert.Scale

open Idealize.ShloMosaic

/-- A bound of a greatest magnitude is a bound of every magnitude: two values with the same bounds are equal. -/
theorem eq_of_le_iff {a b : EReal} (h : ∀ z, a ≤ z ↔ b ≤ z) : a = b :=
  le_antisymm ((h b).2 le_rfl) ((h a).1 le_rfl)

variable (x : Fin 6 → Fin 1536 → Fin 16384 → EReal) (w : Fin 16384 → Fin 2 → Fin 6144 → EReal) (t : Fin 2 → Fin 6144 → EReal)

/-- The codes of the activations: each row times its own inverse scale, clipped. -/
def xcode (b : Fin 6) (s : Fin 1536) (k : Fin 16384) : EReal := clip (x b s k * iv (mag (x b s)))

/-- The scales of the activations, one for each row. -/
def xscale (b : Fin 6) (s : Fin 1536) : EReal := sc (mag (x b s))

/-- One of the two projections: the product of the codes, times both scales. -/
def proj (g : Fin 2) (b : Fin 6) (s : Fin 1536) (f : Fin 6144) : EReal :=
  (∑ k : Fin 16384, xcode x b s k * w k g f) * xscale x b s * t g f

/-- The gated product. -/
def yval (b : Fin 6) (s : Fin 1536) (f : Fin 6144) : EReal := gate (proj x w t 0 b s f) (proj x w t 1 b s f)

/-- The greatest magnitude of the gated product. -/
def ymag : EReal := mag fun i : Fin 6 × Fin 1536 × Fin 6144 => yval x w t i.1 i.2.1 i.2.2

/-- The codes of the gated product: one scale for the whole array. -/
def ycode (b : Fin 6) (s : Fin 1536) (f : Fin 6144) : EReal := clip (yval x w t b s f * iv (ymag x w t))

theorem ymag_le (z : EReal) :
    ymag x w t ≤ z ↔ ∀ b s f, max (yval x w t b s f) (-(yval x w t b s f)) ≤ z := by
  unfold ymag
  rw [mag_le]
  exact ⟨fun H b s f => H (b, s, f), fun H i => H i.1 i.2.1 i.2.2⟩

end Cert.Scale
end
-- ==== Proof.Search.lean ====
/- The vector form of the kernel's scale: the eight comparisons that find the exponent field of every element, and the
   corrections after them. At an index each is the scalar search of `Scale`. -/
module

public import proofs.«01_k».proof.Proof.Scale
public import Idealize.ShloMosaic.Lib.Pointwise

@[expose] public section

noncomputable section

namespace Cert.Scale

open Idealize.ShloMosaic

/-- One vector step of the search for the exponent field. -/
def vstep {s : Shape} (x : FVec Ideal s .f32) (b : IVec s 32) (t : BitVec 32) : IVec s 32 :=
  select (cmpf .oge x (bitcastToFloat .f32 (shli (addi b (broadcast s t)) (broadcast s 23#32)))) (addi b (broadcast s t)) b

theorem vstep_apply {s : Shape} (x : FVec Ideal s .f32) (b : IVec s 32) (t : BitVec 32) (j : s.Idx) :
    vstep x b t j = step (x j) (b j) t := rfl

theorem vstep_def {s : Shape} (x : FVec Ideal s .f32) (b : IVec s 32) (t : BitVec 32) : vstep x b t =
    select (cmpf .oge x (bitcastToFloat .f32 (shli (addi b (broadcast s t)) (broadcast s 23#32)))) (addi b (broadcast s t)) b := rfl

/-- The whole search, elementwise. -/
def vsearch {s : Shape} (x : FVec Ideal s .f32) : IVec s 32 :=
  vstep x (vstep x (vstep x (vstep x (vstep x (vstep x (vstep x (vstep x (broadcast s 0#32) 128#32) 64#32) 32#32) 16#32)
    8#32) 4#32) 2#32) 1#32

theorem vsearch_apply {s : Shape} (x : FVec Ideal s .f32) (j : s.Idx) : vsearch x j = search8 (x j) := by
  have h0 : (broadcast s 0#32 : IVec s 32) j = 0#32 := rfl
  simp only [vsearch, search8, search4, vstep_apply, h0]

/-- The corrections after the search, elementwise. -/
def vfix {s : Shape} (a x : FVec Ideal s .f32) (b : IVec s 32) : IVec s 32 :=
  have b' : IVec s 32 := select (cmpf .oge x (broadcast s (Scalar.ofBits .f32 0x7E800000#32))) (broadcast s 255#32) b
  select (ori (ori (cmpf .oeq a (broadcast s (Scalar.ofBits .f32 0x00000000#32))) (cmpi .eq b' (broadcast s 0#32)))
    (cmpi .eq b' (broadcast s 255#32))) (broadcast s 126#32) b'

theorem vfix_apply {s : Shape} (a x : FVec Ideal s .f32) (b : IVec s 32) (j : s.Idx) :
    vfix a x b j = fix (a j) (x j) (b j) := rfl

/-- The field of the magnitudes `a` with quotients `x`, at an index where the quotient is the magnitude's. -/
theorem field_apply {s : Shape} (a x : FVec Ideal s .f32) (j : s.Idx) (h : x j = a j * c448) :
    vfix a x (vsearch x) j = fix (a j) (a j * c448) (search8 (a j * c448)) := by
  rw [vfix_apply, vsearch_apply, h]

/-- The scale read off a vector of fields. -/
theorem scale_apply {s : Shape} (a x : FVec Ideal s .f32) (j : s.Idx) (h : x j = a j * c448) :
    (bitcastToFloat .f32 (shli (addi (vfix a x (vsearch x)) (broadcast s 1#32)) (broadcast s 23#32)) : FVec Ideal s .f32) j
      = sc (a j) := by
  rw [← kernel_sc, ← field_apply a x j h]
  generalize vfix a x (vsearch x) = b
  rfl

/-- The inverse scale read off a vector of fields. -/
theorem inverse_apply {s : Shape} (a x : FVec Ideal s .f32) (j : s.Idx) (h : x j = a j * c448) :
    (bitcastToFloat .f32 (shli (subi (broadcast s 253#32) (vfix a x (vsearch x))) (broadcast s 23#32)) : FVec Ideal s .f32) j
      = iv (a j) := by
  rw [← kernel_iv, ← field_apply a x j h]
  generalize vfix a x (vsearch x) = b
  rfl

end Cert.Scale
end
-- ==== Proof.Payload0.lean ====
/- Call 0's stored values at an index: a row block of activations quantised, each row by the power-of-two scale of its
   own greatest magnitude. -/
module

public import proofs.«01_k».proof.Proof.Search
public import proofs.«01_k».proof.Proof.KernelIdealRegions
public import Idealize.ShloMosaic.Lib.Pointwise

@[expose] public section

set_option maxRecDepth 16384

noncomputable section

namespace Cert.KernelIdeal.Gen

open Idealize.ShloMosaic Idealize.ShloMosaic.TcCoe
open Cert.Scale

theorem k0_pay3_apply (v0 : Vec Ideal S256x16384 .bf16) (r : Fin 256) (u : Fin 1) :
    k0_pay3 v0 (ix2 r u) = mag fun k : Fin 16384 => v0 (ix2 r k) := by
  unfold mag
  pointwise [k0_pay3, k0_pay2]
  rfl

theorem k0_pay4_apply (v0 : Vec Ideal S256x16384 .bf16) (j : S256x1.Idx) : k0_pay4 v0 j = k0_pay3 v0 j * c448 := by
  have g : ∀ a : FVec Ideal S256x1 .f32, mulf a (broadcast S256x1 (Scalar.ofBits .f32 0x3B124925#32)) j = a j * c448 :=
    fun _ => rfl
  simp only [k0_pay4]
  exact g _

theorem k0_pay5_steps (v0 : Vec Ideal S256x16384 .bf16) : k0_pay5 v0
    = vstep (k0_pay4 v0) (vstep (k0_pay4 v0) (vstep (k0_pay4 v0) (vstep (k0_pay4 v0) (vstep (k0_pay4 v0)
        (broadcast S256x1 0#32) 128#32) 64#32) 32#32) 16#32) 8#32 := by
  unfold k0_pay5
  generalize k0_pay4 v0 = x
  simp only [vstep_def]

theorem k0_pay6_steps (v5 v7 : FVec Ideal S256x1 .f32) (b : IVec S256x1 32) :
    k0_pay6 v5 v7 b = vfix v5 v7 (vstep v7 (vstep v7 (vstep v7 b 4#32) 2#32) 1#32) := by
  unfold k0_pay6
  simp only [vstep_def, vfix]

/-- The row block's fields are the search's, corrected. -/
theorem fields0 (v0 : Vec Ideal S256x16384 .bf16) :
    k0_pay6 (k0_pay3 v0) (k0_pay4 v0) (k0_pay5 v0) = vfix (k0_pay3 v0) (k0_pay4 v0) (vsearch (k0_pay4 v0)) := by
  rw [k0_pay6_steps, k0_pay5_steps, vsearch]

theorem k0_pay7_apply (v0 : Vec Ideal S256x16384 .bf16) (j : S256x1.Idx) :
    k0_pay7 (k0_pay3 v0) (k0_pay4 v0) (k0_pay5 v0) j = sc (k0_pay3 v0 j) := by
  have h := scale_apply (k0_pay3 v0) (k0_pay4 v0) j (k0_pay4_apply v0 j)
  unfold k0_pay7
  rw [fields0]
  exact h

theorem k0_pay8_apply (v0 : Vec Ideal S256x16384 .bf16) (j : S256x1.Idx) :
    (bitcastToFloat .f32 (k0_pay8 (k0_pay3 v0) (k0_pay4 v0) (k0_pay5 v0)) : FVec Ideal S256x1 .f32) j = iv (k0_pay3 v0 j) := by
  have h := inverse_apply (k0_pay3 v0) (k0_pay4 v0) j (k0_pay4_apply v0 j)
  unfold k0_pay8
  rw [fields0]
  exact h

theorem k0_pay1_apply (v2 : FVec Ideal S256x16384 .f32) (v : IVec S256x1 32) (r : Fin 256) (k : Fin 16384) :
    k0_pay1 v2 v (ix2 r k) = clip (v2 (ix2 r k) * (bitcastToFloat .f32 v : FVec Ideal S256x1 .f32) (ix2 r 0)) := by
  unfold clip k0_pay1
  generalize (bitcastToFloat .f32 v : FVec Ideal S256x1 .f32) = z
  pointwise

theorem k0_pay2_apply (v0 : Vec Ideal S256x16384 .bf16) (r : Fin 256) (k : Fin 16384) :
    k0_pay2 v0 (ix2 r k) = v0 (ix2 r k) := by
  pointwise [k0_pay2]

/-- The codes of a row block. -/
theorem codes0_apply (x : Vec Ideal S256x16384 .bf16) (r : Fin 256) (k : Fin 16384) :
    k0_pay1 (k0_pay2 x) (k0_pay8 (k0_pay3 x) (k0_pay4 x) (k0_pay5 x)) (ix2 r k)
      = clip (x (ix2 r k) * iv (mag fun k : Fin 16384 => x (ix2 r k))) := by
  rw [k0_pay1_apply, k0_pay8_apply, k0_pay3_apply, k0_pay2_apply]

/-- The scales of a row block. -/
theorem scales0_apply (x : Vec Ideal S256x16384 .bf16) (r : Fin 256) (u : Fin 1) :
    k0_pay7 (k0_pay3 x) (k0_pay4 x) (k0_pay5 x) (ix2 r u) = sc (mag fun k : Fin 16384 => x (ix2 r k)) := by
  rw [k0_pay7_apply, k0_pay3_apply]

end Cert.KernelIdeal.Gen
end
-- ==== Proof.Value0.lean ====
/- Call 0's arrays after its run, index by index: the codes and the scales of every row of the activations it finds. -/
module

public import proofs.«01_k».proof.Proof.Payload0
public import Idealize.ShloMosaic.Lib.Pipeline.ValueKit

@[expose] public section

set_option maxRecDepth 16384

noncomputable section

namespace Cert.KernelIdeal.Gen

open Idealize.ShloMosaic Idealize.ShloMosaic.TcCoe
open Cert.Scale

variable (V : (c : Dev nD) → (b : Ref sig .tc) → Buf (Elt Ideal) ((c : Thread nD τ).loc b))

/-- The activations as call 0 finds them. -/
def X0 (c : Dev nD) : Vec Ideal S9216x16384 .bf16 := V c main_v0

theorem idx0_0 : ∀ t, win0_0.index t = ![(grid0.coords t 0).val, 0] := by decide +kernel
theorem idx0_1 : ∀ t, win0_1.index t = ![(grid0.coords t 0).val, 0] := by decide +kernel
theorem idx0_2 : ∀ t, win0_2.index t = ![(grid0.coords t 0).val, 0] := by decide +kernel

/-- The codes of every row. -/
def codes0 (X : Vec Ideal S9216x16384 .bf16) : Vec Ideal S9216x16384 .fp8e4m3 :=
  fun i => clip (X i * iv (mag fun k : Fin 16384 => X (ix2 (i 0) k)))

/-- The scales of every row. -/
def scales0 (X : Vec Ideal S9216x16384 .bf16) : Vec Ideal S9216x1 .f32 :=
  fun i => sc (mag fun k : Fin 16384 => X (ix2 (i 0) k))

/-- Row `r` of the block at point `t`, in the array. -/
def row0 (t : Fin cfg0.N) (r : Fin 256) : Fin 9216 :=
  ⟨(grid0.coords t 0).val * 256 + r.val, by have := (grid0.coords t 0).isLt; have := r.isLt; simp at *; omega⟩

theorem iblk0_apply (c : Dev nD) (t : Fin cfg0.N) (r : Fin 256) (k : Fin 16384) :
    iblk0 V c 0 t (ix2 r k) = X0 V c (ix2 (row0 t r) k) := by
  unfold X0 row0
  blk_ext [iblk0, idx0_0 t]

theorem arr0_1 (c : Dev nD) : (dat0 V c).arrAt 1 cfg0.N = codes0 (X0 V c) := by
  refine (dat0 V c).arrAt_eq_of_covers 1 _ (by decide +kernel) fun t hf y => ?_
  blk_simp
  rw [after0_1]
  unfold out0_1 k0_pay9 k0_pay10 k0_pay11
  frame_out
  obtain ⟨r, k, rfl⟩ : ∃ (r : Fin 256) (k : Fin 16384), y = ix2 r k := ⟨y 0, y 1, eq_ix2 y⟩
  have e : ((View.whole main_v2_0).slice (win0_1.rect t)).emb (ix2 r k) = (ix2 (row0 t r) k : S9216x16384.Idx) := by
    unfold row0
    blk_ext [idx0_1 t]
  rw [e]
  refine (codes0_apply _ r k).trans ?_
  simp only [iblk0_apply]
  rfl

theorem arr0_2 (c : Dev nD) : (dat0 V c).arrAt 2 cfg0.N = scales0 (X0 V c) := by
  refine (dat0 V c).arrAt_eq_of_covers 2 _ (by decide +kernel) fun t hf y => ?_
  blk_simp
  rw [after0_2]
  unfold out0_2 k0_pay9 k0_pay10 k0_pay11
  frame_out
  obtain ⟨r, k, rfl⟩ : ∃ (r : Fin 256) (k : Fin 1), y = ix2 r k := ⟨y 0, y 1, eq_ix2 y⟩
  have e : ((View.whole main_v2_1).slice (win0_2.rect t)).emb (ix2 r k) = (ix2 (row0 t r) k : S9216x1.Idx) := by
    unfold row0
    blk_ext [idx0_2 t]
  rw [e]
  refine (scales0_apply _ r k).trans ?_
  simp only [iblk0_apply]
  rfl

end Cert.KernelIdeal.Gen
end
-- ==== Proof.Payload1.lean ====
/- Call 1's stored values at an index: the gated product of two matrix products, and the magnitudes' running maximum. -/
module

public import proofs.«01_k».proof.Proof.Scale
public import proofs.«01_k».proof.Proof.KernelIdealRegions
public import Idealize.ShloMosaic.Lib.Pointwise

@[expose] public section

set_option maxRecDepth 16384

noncomputable section

namespace Cert.KernelIdeal.Gen

open Idealize.ShloMosaic Idealize.ShloMosaic.TcCoe
open Cert.Scale

/-- The tile of gated products. -/
theorem gated_apply (v0 : Vec Ideal S1024x16384 .fp8e4m3) (v2 v5 : Vec Ideal S1x16384x256 .fp8e4m3)
    (v8 : Vec Ideal S1024x1 .f32) (v12 v17 : Vec Ideal S1x256 .f32) (r : Fin 1024) (k : Fin 256) :
    k1_pay2 v0 v2 v5 v8 v12 v17 (ix2 r k) = gate
      ((∑ x : Fin 16384, v0 (ix2 r x) * v2 (ix3 0 x k)) * v8 (ix2 r 0) * v12 (ix2 0 k))
      ((∑ x : Fin 16384, v0 (ix2 r x) * v5 (ix3 0 x k)) * v8 (ix2 r 0) * v17 (ix2 0 k)) := by
  unfold gate
  pointwise [k1_pay2]

/-- The tile's maxima over groups of entries: bounded exactly where the tile's magnitudes are. -/
theorem top1_le (v0 : Vec Ideal S1024x16384 .fp8e4m3) (v2 v5 : Vec Ideal S1x16384x256 .fp8e4m3)
    (v8 : Vec Ideal S1024x1 .f32) (v12 v17 : Vec Ideal S1x256 .f32) (z : EReal) :
    (∀ r k, k1_pay3 v0 v2 v5 v8 v12 v17 (ix2 r k) ≤ z)
      ↔ ∀ r k, max (k1_pay2 v0 v2 v5 v8 v12 v17 (ix2 r k)) (-(k1_pay2 v0 v2 v5 v8 v12 v17 (ix2 r k))) ≤ z := by
  unfold k1_pay3
  generalize k1_pay2 v0 v2 v5 v8 v12 v17 = y
  have h : ∀ (r : Fin 8) (k : Fin 128), (multiReduction .maximumf [0, 2] S8x128
      (shapeCast S128x8x2x128 (absf y) shapeCasts_S1024x256_S128x8x2x128) 0xFF800000#32 reduces_S128x8x2x128_S8x128 (.inl rfl) rfl :
      FVec Ideal S8x128 .f32) (ix2 r k) ≤ z
      ↔ ∀ x : S128x8x2x128.Idx, reduces_S128x8x2x128_S8x128.drop x = ix2 r k → ∀ m f, m.val = (x 0).val * 8 + (x 1).val →
        f.val = (x 2).val * 128 + (x 3).val → max (y (ix2 m f)) (-(y (ix2 m f))) ≤ z := by
    intro r k
    pointwise
    rw [Finset.fold_max_le, ofBits_ninf]
    simp only [bot_le, true_and, Finset.mem_filter, Finset.mem_univ]
    refine forall_congr' fun x => forall_congr' fun hx => ⟨fun H m f hm hf => ?_, fun H => H _ _ rfl rfl⟩
    have e1 : m = ⟨(x 0).val * 8 + (x 1).val, hm ▸ m.isLt⟩ := Fin.ext hm
    have e2 : f = ⟨(x 2).val * 128 + (x 3).val, hf ▸ f.isLt⟩ := Fin.ext hf
    rw [e1, e2]
    exact H
  constructor
  · intro H m f
    have hx := (h _ _).1 (H _ _) (ix4 ⟨m.val / 8, by omega⟩ ⟨m.val % 8, by omega⟩ ⟨f.val / 128, by omega⟩ ⟨f.val % 128, by omega⟩)
      (eq_ix2 _) m f
    apply hx
    · show m.val = m.val / 8 * 8 + m.val % 8
      omega
    · show f.val = f.val / 128 * 128 + f.val % 128
      omega
  · intro H r k
    exact (h r k).2 fun x _ m f _ _ => H m f

theorem k1_pay1_apply (v26 : FVec Ideal S8x128 .f32) (v35 : Vec Ideal S8x128 .f32) (j : S8x128.Idx) :
    k1_pay1 v26 v35 j = max (v35 j) (v26 j) := by
  rw [eq_ix2 j]
  pointwise [k1_pay1]

end Cert.KernelIdeal.Gen
end
-- ==== Proof.Value1.lean ====
/- Call 1's arrays after its run: the gated products at every index, and a running maximum that bounds exactly what
   bounds every magnitude of them. -/
module

public import proofs.«01_k».proof.Proof.Payload1
public import Idealize.ShloMosaic.Lib.Pipeline.ValueKit

@[expose] public section

set_option maxRecDepth 16384

noncomputable section

namespace Cert.KernelIdeal.Gen

open Idealize.ShloMosaic Idealize.ShloMosaic.TcCoe
open Cert.Scale

variable (V : (c : Dev nD) → (b : Ref sig .tc) → Buf (Elt Ideal) ((c : Thread nD τ).loc b))

/-- The activations' codes as call 1 finds them. -/
def XC1 (c : Dev nD) : Vec Ideal S9216x16384 .fp8e4m3 := V c main_v2_0
/-- The activations' scales as call 1 finds them. -/
def XS1 (c : Dev nD) : Vec Ideal S9216x1 .f32 := V c main_v2_1
/-- The weights' codes as call 1 finds them. -/
def WC1 (c : Dev nD) : Vec Ideal S2x16384x6144 .fp8e4m3 := V c main_v1
/-- The weights' scales as call 1 finds them. -/
def WS1 (c : Dev nD) : Vec Ideal S2x6144 .f32 := V c main_arg2

/-- The gated products, from the codes and the scales. -/
def gated1 (X : Vec Ideal S9216x16384 .fp8e4m3) (S : Vec Ideal S9216x1 .f32) (W : Vec Ideal S2x16384x6144 .fp8e4m3)
    (T : Vec Ideal S2x6144 .f32) : Vec Ideal S9216x6144 .f32 :=
  fun i => gate ((∑ x : Fin 16384, X (ix2 (i 0) x) * W (ix3 0 x (i 1))) * S (ix2 (i 0) 0) * T (ix2 0 (i 1)))
    ((∑ x : Fin 16384, X (ix2 (i 0) x) * W (ix3 1 x (i 1))) * S (ix2 (i 0) 0) * T (ix2 1 (i 1)))

theorem idx1_0 : ∀ t, win1_0.index t = ![(grid1.coords t 0).val, 0] := by decide +kernel
theorem idx1_1 : ∀ t, win1_1.index t = ![(grid1.coords t 0).val, 0] := by decide +kernel
theorem idx1_2 : ∀ t, win1_2.index t = ![0, 0, (grid1.coords t 1).val] := by decide +kernel
theorem idx1_3 : ∀ t, win1_3.index t = ![0, (grid1.coords t 1).val] := by decide +kernel
theorem idx1_4 : ∀ t, win1_4.index t = ![(grid1.coords t 0).val, (grid1.coords t 1).val] := by decide +kernel

/-- Row `r` of the tile at point `t`, in the array. -/
def row1 (t : Fin cfg1.N) (r : Fin 1024) : Fin 9216 :=
  ⟨(grid1.coords t 0).val * 1024 + r.val, by have := (grid1.coords t 0).isLt; have := r.isLt; simp at *; omega⟩
/-- Column `k` of the tile at point `t`, in the array. -/
def col1 (t : Fin cfg1.N) (k : Fin 256) : Fin 6144 :=
  ⟨(grid1.coords t 1).val * 256 + k.val, by have := (grid1.coords t 1).isLt; have := k.isLt; simp at *; omega⟩

theorem iblk1_0_apply (c : Dev nD) (t : Fin cfg1.N) (r : Fin 1024) (k : Fin 16384) :
    iblk1 V c 0 t (ix2 r k) = XC1 V c (ix2 (row1 t r) k) := by
  unfold XC1 row1
  blk_ext [iblk1, idx1_0 t]
theorem iblk1_1_apply (c : Dev nD) (t : Fin cfg1.N) (r : Fin 1024) (k : Fin 1) :
    iblk1 V c 1 t (ix2 r k) = XS1 V c (ix2 (row1 t r) k) := by
  unfold XS1 row1
  blk_ext [iblk1, idx1_1 t]
theorem iblk1_2_apply (c : Dev nD) (t : Fin cfg1.N) (g : Fin 2) (x : Fin 16384) (k : Fin 256) :
    iblk1 V c 2 t (ix3 g x k) = WC1 V c (ix3 g x (col1 t k)) := by
  unfold WC1 col1
  blk_ext [iblk1, idx1_2 t]
theorem iblk1_3_apply (c : Dev nD) (t : Fin cfg1.N) (g : Fin 2) (k : Fin 256) :
    iblk1 V c 3 t (ix2 g k) = WS1 V c (ix2 g (col1 t k)) := by
  unfold WS1 col1
  blk_ext [iblk1, idx1_3 t]

/-- The gated products of the tile at point `t`, as the body computes them. -/
def tile1 (c : Dev nD) (t : Fin cfg1.N) : Vec Ideal S1024x256 .f32 :=
  k1_pay2 (iblk1 V c 0 t)
      (View.ld (iblk1 V c 2 t) (Rect.unit ![0, 0, 0] ![1, 16384, 256] inb_S2x16384x256_S1x16384x256_0_0_0))
      (View.ld (iblk1 V c 2 t) (Rect.unit ![1, 0, 0] ![1, 16384, 256] inb_S2x16384x256_S1x16384x256_1_0_0))
      (iblk1 V c 1 t) (View.ld (iblk1 V c 3 t) (Rect.unit ![0, 0] ![1, 256] inb_S2x256_S1x256_0_0))
      (View.ld (iblk1 V c 3 t) (Rect.unit ![1, 0] ![1, 256] inb_S2x256_S1x256_1_0))

/-- The tile's maxima over groups of its entries. -/
def top1 (c : Dev nD) (t : Fin cfg1.N) : Vec Ideal S8x128 .f32 :=
  k1_pay3 (iblk1 V c 0 t)
      (View.ld (iblk1 V c 2 t) (Rect.unit ![0, 0, 0] ![1, 16384, 256] inb_S2x16384x256_S1x16384x256_0_0_0))
      (View.ld (iblk1 V c 2 t) (Rect.unit ![1, 0, 0] ![1, 16384, 256] inb_S2x16384x256_S1x16384x256_1_0_0))
      (iblk1 V c 1 t) (View.ld (iblk1 V c 3 t) (Rect.unit ![0, 0] ![1, 256] inb_S2x256_S1x256_0_0))
      (View.ld (iblk1 V c 3 t) (Rect.unit ![1, 0] ![1, 256] inb_S2x256_S1x256_1_0))

theorem ldw_0 (b : Vec Ideal S2x16384x256 .fp8e4m3) (x : Fin 16384) (k : Fin 256) :
    View.ld b (Rect.unit ![0, 0, 0] ![1, 16384, 256] inb_S2x16384x256_S1x16384x256_0_0_0) (ix3 0 x k) = b (ix3 0 x k) := by
  refine View.ld_unit_apply_of _ _ _ _ _ _ fun a => ?_
  fin_cases a <;> simp [ix2, ix3]
theorem ldw_1 (b : Vec Ideal S2x16384x256 .fp8e4m3) (x : Fin 16384) (k : Fin 256) :
    View.ld b (Rect.unit ![1, 0, 0] ![1, 16384, 256] inb_S2x16384x256_S1x16384x256_1_0_0) (ix3 0 x k) = b (ix3 1 x k) := by
  refine View.ld_unit_apply_of _ _ _ _ _ _ fun a => ?_
  fin_cases a <;> simp [ix2, ix3]
theorem lds_0 (b : Vec Ideal S2x256 .f32) (k : Fin 256) :
    View.ld b (Rect.unit ![0, 0] ![1, 256] inb_S2x256_S1x256_0_0) (ix2 0 k) = b (ix2 0 k) := by
  refine View.ld_unit_apply_of _ _ _ _ _ _ fun a => ?_
  fin_cases a <;> simp [ix2, ix3]
theorem lds_1 (b : Vec Ideal S2x256 .f32) (k : Fin 256) :
    View.ld b (Rect.unit ![1, 0] ![1, 256] inb_S2x256_S1x256_1_0) (ix2 0 k) = b (ix2 1 k) := by
  refine View.ld_unit_apply_of _ _ _ _ _ _ fun a => ?_
  fin_cases a <;> simp [ix2, ix3]

/-- A gated product from the entries it reads. -/
theorem gated_of (v0 : Vec Ideal S1024x16384 .fp8e4m3) (v2 v5 : Vec Ideal S1x16384x256 .fp8e4m3)
    (v8 : Vec Ideal S1024x1 .f32) (v12 v17 : Vec Ideal S1x256 .f32) (r : Fin 1024) (k : Fin 256)
    (a b b' : Fin 16384 → EReal) (s w w' : EReal)
    (h0 : ∀ x, v0 (ix2 r x) = a x) (h2 : ∀ x, v2 (ix3 0 x k) = b x) (h5 : ∀ x, v5 (ix3 0 x k) = b' x)
    (h8 : v8 (ix2 r 0) = s) (h12 : v12 (ix2 0 k) = w) (h17 : v17 (ix2 0 k) = w') :
    k1_pay2 v0 v2 v5 v8 v12 v17 (ix2 r k) = gate ((∑ x, a x * b x) * s * w) ((∑ x, a x * b' x) * s * w') := by
  rw [gated_apply, h8, h12, h17]
  simp only [h0, h2, h5]

theorem gated1_apply (X : Vec Ideal S9216x16384 .fp8e4m3) (S : Vec Ideal S9216x1 .f32) (W : Vec Ideal S2x16384x6144 .fp8e4m3)
    (T : Vec Ideal S2x6144 .f32) (m : Fin 9216) (f : Fin 6144) : gated1 X S W T (ix2 m f)
      = gate ((∑ x : Fin 16384, X (ix2 m x) * W (ix3 0 x f)) * S (ix2 m 0) * T (ix2 0 f))
        ((∑ x : Fin 16384, X (ix2 m x) * W (ix3 1 x f)) * S (ix2 m 0) * T (ix2 1 f)) := by
  simp only [gated1, ix2_0, ix2_1]

theorem tile1_apply (c : Dev nD) (t : Fin cfg1.N) (r : Fin 1024) (k : Fin 256) :
    tile1 V c t (ix2 r k) = gated1 (XC1 V c) (XS1 V c) (WC1 V c) (WS1 V c) (ix2 (row1 t r) (col1 t k)) := by
  rw [gated1_apply]
  unfold tile1
  exact gated_of _ _ _ _ _ _ r k _ _ _ _ _ _ (fun x => iblk1_0_apply V c t r x)
    (fun x => (ldw_0 _ x k).trans (iblk1_2_apply V c t 0 x k)) (fun x => (ldw_1 _ x k).trans (iblk1_2_apply V c t 1 x k))
    (iblk1_1_apply V c t r 0) ((lds_0 _ k).trans (iblk1_3_apply V c t 0 k)) ((lds_1 _ k).trans (iblk1_3_apply V c t 1 k))

theorem outs1_fst (c : Dev nD) (t : Fin cfg1.N) : (outsAt1 V c t.val t.isLt).1 = tile1 V c t := by
  have hN : t.val < 216 := t.isLt
  unfold tile1
  by_cases h1 : 1 ≤ t.val
  · rw [outsAt1_B V c t (by omega) h1]
    frame_out
    rfl
  · rw [outsAt1_A V c t (by omega) h1]
    frame_out
    rfl

theorem outs1_snd_A (c : Dev nD) (t : Fin cfg1.N) (h1 : ¬1 ≤ t.val) : (outsAt1 V c t.val t.isLt).2 = top1 V c t := by
  unfold top1
  rw [outsAt1_A V c t (by omega) h1]
  frame_out
  rfl

theorem outs1_snd_B (c : Dev nD) (t : Fin cfg1.N) (h1 : 1 ≤ t.val) (h : t.val - 1 < cfg1.N) :
    (outsAt1 V c t.val t.isLt).2 = k1_pay1 (top1 V c t) (outsAt1 V c (t.val - 1) h).2 := by
  have hN : t.val < 216 := t.isLt
  unfold top1
  rw [outsAt1_B V c t (by omega) h1]
  frame_out
  rfl

/-- A bound of the running maxima after point `n` bounds the tiles up to it, and conversely. -/
theorem outs1_le (c : Dev nD) (z : EReal) : ∀ (n : ℕ) (hn : n < cfg1.N), (∀ r k, (outsAt1 V c n hn).2 (ix2 r k) ≤ z)
    ↔ ∀ t : Fin cfg1.N, t.val ≤ n → ∀ r k, max (tile1 V c t (ix2 r k)) (-(tile1 V c t (ix2 r k))) ≤ z := by
  have ht : ∀ t : Fin cfg1.N, (∀ r k, top1 V c t (ix2 r k) ≤ z)
      ↔ ∀ r k, max (tile1 V c t (ix2 r k)) (-(tile1 V c t (ix2 r k))) ≤ z := fun t => top1_le _ _ _ _ _ _ z
  intro n
  induction n with
  | zero =>
    intro hn
    rw [outs1_snd_A V c ⟨0, hn⟩ (by simp), ht]
    constructor
    · intro H t h0
      obtain rfl : t = ⟨0, hn⟩ := Fin.ext (by simpa using h0)
      exact H
    · intro H; exact H ⟨0, hn⟩ le_rfl
  | succ n ih =>
    intro hn
    have e := outs1_snd_B V c ⟨n + 1, hn⟩ (by simp) (by simpa using Nat.lt_of_succ_lt hn)
    have hp : ∀ r k, (outsAt1 V c (n + 1) hn).2 (ix2 r k)
        = max ((outsAt1 V c n (Nat.lt_of_succ_lt hn)).2 (ix2 r k)) (top1 V c ⟨n + 1, hn⟩ (ix2 r k)) := by
      intro r k
      refine (congrFun e (ix2 r k)).trans ?_
      exact k1_pay1_apply _ _ _
    simp only [hp, max_le_iff (a := (outsAt1 V c n (Nat.lt_of_succ_lt hn)).2 _), forall_and]
    rw [ih, ht]
    constructor
    · rintro ⟨H1, H2⟩ t h
      rcases Nat.lt_or_ge n t.val with h' | h'
      · obtain rfl : t = ⟨n + 1, hn⟩ := Fin.ext (by simp; omega)
        exact H2
      · exact H1 t h'
    · intro H
      exact ⟨fun t h => H t (by omega), H ⟨n + 1, hn⟩ le_rfl⟩

theorem arr1_4 (c : Dev nD) : (dat1 V c).arrAt 4 cfg1.N = gated1 (XC1 V c) (XS1 V c) (WC1 V c) (WS1 V c) := by
  refine (dat1 V c).arrAt_eq_of_covers 4 _ (by decide +kernel) fun t hf y => ?_
  blk_simp
  rw [after1_4]
  obtain ⟨r, k, rfl⟩ : ∃ (r : Fin 1024) (k : Fin 256), y = ix2 r k := ⟨y 0, y 1, eq_ix2 y⟩
  have e : (win1_4.blk t).view.emb (ix2 r k) = (ix2 (row1 t r) (col1 t k) : S9216x6144.Idx) := by
    unfold row1 col1
    blk_ext [idx1_4 t]
  rw [e, outs1_fst, tile1_apply]

/-- The last point of the grid. -/
def last1 : Fin cfg1.N := ⟨215, by decide⟩

/-- The running maxima in the array are those of the last point. -/
theorem arr1_5 (c : Dev nD) : (dat1 V c).arrAt 5 cfg1.N = (outsAt1 V c last1.val last1.isLt).2 := by
  refine (dat1 V c).arrAt_eq_of_after_last 5 last1 (by decide +kernel) _ fun j => ?_
  blk_simp
  rw [after1_5]

theorem coords1 : ∀ t, (grid1.coords t 0).val = t.val / 24 ∧ (grid1.coords t 1).val = t.val % 24 := by decide +kernel

/-- The array of running maxima is bounded by what bounds every magnitude of the gated products, and conversely. -/
theorem arr1_5_le (c : Dev nD) (z : EReal) : (∀ r k, (outsAt1 V c last1.val last1.isLt).2 (ix2 r k) ≤ z)
    ↔ ∀ m f, max (gated1 (XC1 V c) (XS1 V c) (WC1 V c) (WS1 V c) (ix2 m f)) (-(gated1 (XC1 V c) (XS1 V c) (WC1 V c) (WS1 V c) (ix2 m f))) ≤ z := by
  rw [outs1_le]
  simp only [tile1_apply]
  generalize gated1 (XC1 V c) (XS1 V c) (WC1 V c) (WS1 V c) = Y
  constructor
  · intro H m f
    have hm := m.isLt
    have hf := f.isLt
    have h := H ⟨m.val / 1024 * 24 + f.val / 256, by show _ < 216; omega⟩ (by show _ ≤ 215; simp only; omega)
      ⟨m.val % 1024, by omega⟩ ⟨f.val % 256, by omega⟩
    have e1 : row1 ⟨m.val / 1024 * 24 + f.val / 256, by show _ < 216; omega⟩ ⟨m.val % 1024, by omega⟩ = m := by
      apply Fin.ext
      unfold row1
      simp only [(coords1 _).1]
      omega
    have e2 : col1 ⟨m.val / 1024 * 24 + f.val / 256, by show _ < 216; omega⟩ ⟨f.val % 256, by omega⟩ = f := by
      apply Fin.ext
      unfold col1
      simp only [(coords1 _).2]
      omega
    rw [e1, e2] at h
    exact h
  · intro H t _ r k
    exact H _ _

end Cert.KernelIdeal.Gen
end
-- ==== Proof.Payload2.lean ====
/- Call 2's stored values at an index: the second quantiser, with one power-of-two scale for the whole array, from the
   running maximum that call 1 leaves. -/
module

public import proofs.«01_k».proof.Proof.Search
public import proofs.«01_k».proof.Proof.KernelIdealRegions
public import Idealize.ShloMosaic.Lib.Pointwise

@[expose] public section

set_option maxRecDepth 16384

noncomputable section

namespace Cert.KernelIdeal.Gen

open Idealize.ShloMosaic Idealize.ShloMosaic.TcCoe
open Cert.Scale

/-- The greatest of the 8x128 running maxima. -/
def top2 (v0 : Vec Ideal S8x128 .f32) : EReal :=
  Finset.univ.fold max (Ideal.ofBits .f32 0xFF800000#32) fun x : Fin 8 × Fin 128 => v0 (ix2 x.1 x.2)

theorem k2_pay4_apply (v0 : Vec Ideal S8x128 .f32) (r k : Fin 1) : k2_pay4 v0 (ix2 r k) = top2 v0 := by
  unfold top2
  pointwise [k2_pay4]

theorem k2_pay5_apply (v0 : Vec Ideal S8x128 .f32) (r : Fin 8) (k : Fin 128) : k2_pay5 v0 (ix2 r k) = top2 v0 := by
  rw [← k2_pay4_apply v0 0 0]
  unfold k2_pay5
  generalize k2_pay4 v0 = a
  pointwise

theorem k2_pay6_apply (v0 : Vec Ideal S8x128 .f32) (j : S8x128.Idx) : k2_pay6 v0 j = k2_pay5 v0 j * c448 := by
  unfold k2_pay6
  generalize k2_pay5 v0 = a
  rfl

theorem k2_pay7_steps (v0 : Vec Ideal S8x128 .f32) : k2_pay7 v0
    = vstep (k2_pay6 v0) (vstep (k2_pay6 v0) (vstep (k2_pay6 v0) (vstep (k2_pay6 v0)
        (broadcast S8x128 0#32) 128#32) 64#32) 32#32) 16#32 := by
  unfold k2_pay7
  generalize k2_pay6 v0 = x
  simp only [vstep_def]

theorem k2_pay10_steps (v8 v10 : FVec Ideal S8x128 .f32) (b : IVec S8x128 32) :
    k2_pay10 v8 v10 b (addi b (broadcast S8x128 8#32)) (shli (addi b (broadcast S8x128 8#32)) (broadcast S8x128 23#32))
      = vfix v8 v10 (vstep v10 (vstep v10 (vstep v10 (vstep v10 b 8#32) 4#32) 2#32) 1#32) := by
  unfold k2_pay10
  simp only [vstep_def, vfix]

theorem fields2 (v0 : Vec Ideal S8x128 .f32) :
    k2_pay10 (k2_pay5 v0) (k2_pay6 v0) (k2_pay7 v0) (k2_pay8 v0) (k2_pay9 v0)
      = vfix (k2_pay5 v0) (k2_pay6 v0) (vsearch (k2_pay6 v0)) := by
  have h8 : k2_pay8 v0 = addi (k2_pay7 v0) (broadcast S8x128 8#32) := by simp only [k2_pay8]
  have h9 : k2_pay9 v0 = shli (addi (k2_pay7 v0) (broadcast S8x128 8#32)) (broadcast S8x128 23#32) := by
    simp only [k2_pay9, h8]
  rw [h8, h9, k2_pay10_steps, k2_pay7_steps, vsearch]

theorem k2_pay11_apply (v0 : Vec Ideal S8x128 .f32) (j : S8x128.Idx) :
    k2_pay11 (k2_pay5 v0) (k2_pay6 v0) (k2_pay7 v0) (k2_pay8 v0) (k2_pay9 v0) j = sc (k2_pay5 v0 j) := by
  have h := scale_apply (k2_pay5 v0) (k2_pay6 v0) j (k2_pay6_apply v0 j)
  unfold k2_pay11
  rw [fields2]
  exact h

theorem k2_pay12_apply (v0 : Vec Ideal S8x128 .f32) (j : S8x128.Idx) :
    (bitcastToFloat .f32 (shli (k2_pay12 (k2_pay5 v0) (k2_pay6 v0) (k2_pay7 v0) (k2_pay8 v0) (k2_pay9 v0)) (broadcast S8x128 23#32)) :
      FVec Ideal S8x128 .f32) j = iv (k2_pay5 v0 j) := by
  have h := inverse_apply (k2_pay5 v0) (k2_pay6 v0) j (k2_pay6_apply v0 j)
  unfold k2_pay12
  rw [fields2]
  exact h

theorem k2_pay1_apply (b : IVec S8x128 32) (y : Vec Ideal S512x6144 .f32) (r : Fin 512) (k : Fin 6144) :
    k2_pay1 b y (ix2 r k) = clip (y (ix2 r k)
      * (bitcastToFloat .f32 (shli b (broadcast S8x128 23#32)) : FVec Ideal S8x128 .f32) (ix2 0 0)) := by
  unfold clip k2_pay1
  generalize (bitcastToFloat .f32 (shli b (broadcast S8x128 23#32)) : FVec Ideal S8x128 .f32) = z
  pointwise

/-- The codes of a row block, with the running maxima `v0`. -/
theorem codes2_apply (v0 : Vec Ideal S8x128 .f32) (y : Vec Ideal S512x6144 .f32) (r : Fin 512) (k : Fin 6144) :
    k2_pay1 (k2_pay12 (k2_pay5 v0) (k2_pay6 v0) (k2_pay7 v0) (k2_pay8 v0) (k2_pay9 v0)) y (ix2 r k)
      = clip (y (ix2 r k) * iv (top2 v0)) := by
  rw [k2_pay1_apply, k2_pay12_apply, k2_pay5_apply]

/-- The scale, in every entry of the first slab. -/
theorem scale2_apply (v0 : Vec Ideal S8x128 .f32) (u : Fin 1) (r : Fin 8) (k : Fin 128) :
    k2_pay2 (k2_pay11 (k2_pay5 v0) (k2_pay6 v0) (k2_pay7 v0) (k2_pay8 v0) (k2_pay9 v0)) (ix3 u r k) = sc (top2 v0) := by
  rw [← k2_pay5_apply v0 r k, ← k2_pay11_apply v0 (ix2 r k)]
  generalize k2_pay11 (k2_pay5 v0) (k2_pay6 v0) (k2_pay7 v0) (k2_pay8 v0) (k2_pay9 v0) = z
  pointwise [k2_pay2]

/-- The greatest magnitude, in every entry of the second slab. -/
theorem amax2_apply (v0 : Vec Ideal S8x128 .f32) (u : Fin 1) (r : Fin 8) (k : Fin 128) :
    k2_pay3 (k2_pay4 v0) (ix3 u r k) = top2 v0 := by
  rw [← k2_pay4_apply v0 0 0]
  generalize k2_pay4 v0 = z
  pointwise [k2_pay3]

end Cert.KernelIdeal.Gen
end
-- ==== Proof.Value2.lean ====
/- Call 2's arrays after its run: the codes of the gated products, and a scale and a greatest magnitude for them all. -/
module

public import proofs.«01_k».proof.Proof.Payload2
public import Idealize.ShloMosaic.Lib.Pipeline.ValueKit

@[expose] public section

set_option maxRecDepth 16384

noncomputable section

namespace Cert.KernelIdeal.Gen

open Idealize.ShloMosaic Idealize.ShloMosaic.TcCoe
open Cert.Scale

variable (V : (c : Dev nD) → (b : Ref sig .tc) → Buf (Elt Ideal) ((c : Thread nD τ).loc b))

/-- The running maxima as call 2 finds them. -/
def M2 (c : Dev nD) : Vec Ideal S8x128 .f32 := V c main_v3_1
/-- The gated products as call 2 finds them. -/
def Y2 (c : Dev nD) : Vec Ideal S9216x6144 .f32 := V c main_v3_0

theorem idx2_0 : ∀ t, win2_0.index t = ![0, 0] := by decide +kernel
theorem idx2_1 : ∀ t, win2_1.index t = ![(grid2.coords t 0).val, 0] := by decide +kernel
theorem idx2_2 : ∀ t, win2_2.index t = ![(grid2.coords t 0).val, 0] := by decide +kernel
theorem idx2_3 : ∀ t, win2_3.index t = ![0, 0, 0] := by decide +kernel

/-- Row `r` of the block at point `t`, in the array. -/
def row2 (t : Fin cfg2.N) (r : Fin 512) : Fin 9216 :=
  ⟨(grid2.coords t 0).val * 512 + r.val, by have := (grid2.coords t 0).isLt; have := r.isLt; simp at *; omega⟩

theorem iblk2_1_apply (c : Dev nD) (t : Fin cfg2.N) (r : Fin 512) (k : Fin 6144) :
    iblk2 V c 1 t (ix2 r k) = Y2 V c (ix2 (row2 t r) k) := by
  unfold Y2 row2
  blk_ext [iblk2, idx2_1 t]

theorem iblk2_0_eq (c : Dev nD) (t : Fin cfg2.N) : iblk2 V c 0 t = M2 V c := by
  unfold M2
  blk_ext! [iblk2, idx2_0 t]

theorem arr2_2 (c : Dev nD) : (dat2 V c).arrAt 2 cfg2.N = fun i : S9216x6144.Idx => clip (Y2 V c i * iv (top2 (M2 V c))) := by
  refine (dat2 V c).arrAt_eq_of_covers 2 _ (by decide +kernel) fun t hf y => ?_
  blk_simp
  rw [after2_2]
  unfold out2_2 k2_pay13 k2_pay14 k2_pay15 k2_pay16 k2_pay17
  frame_out
  obtain ⟨r, k, rfl⟩ : ∃ (r : Fin 512) (k : Fin 6144), y = ix2 r k := ⟨y 0, y 1, eq_ix2 y⟩
  have e : ((View.whole main_v4_0).slice (win2_2.rect t)).emb (ix2 r k) = (ix2 (row2 t r) k : S9216x6144.Idx) := by
    unfold row2
    blk_ext [idx2_2 t]
  rw [e, iblk2_0_eq]
  refine (codes2_apply _ _ r k).trans ?_
  rw [iblk2_1_apply]

theorem arr2_3 (c : Dev nD) : (dat2 V c).arrAt 3 cfg2.N
    = fun i : S2x8x128.Idx => if (i 0).val = 0 then sc (top2 (M2 V c)) else top2 (M2 V c) := by
  refine (dat2 V c).arrAt_eq_of_covers 3 _ (by decide +kernel) fun t hf y => ?_
  blk_simp
  rw [after2_3]
  unfold out2_3 k2_pay13 k2_pay14 k2_pay15 k2_pay16 k2_pay17
  frame_out
  obtain ⟨a, r, k, rfl⟩ : ∃ (a : Fin 2) (r : Fin 8) (k : Fin 128), y = ix3 a r k := ⟨y 0, y 1, y 2, eq_ix3 y⟩
  rw [idx2_3 t, iblk2_0_eq]
  canon_tiles x h
  · obtain ⟨u, r', k', rfl⟩ : ∃ (u : Fin 1) (r' : Fin 8) (k' : Fin 128), x = ix3 u r' k' := ⟨x 0, x 1, x 2, eq_ix3 x⟩
    refine (amax2_apply _ _ _ _).trans (Eq.symm (if_neg ?_))
    simp at h0 ⊢
    omega
  · obtain ⟨u, r', k', rfl⟩ : ∃ (u : Fin 1) (r' : Fin 8) (k' : Fin 128), x = ix3 u r' k' := ⟨x 0, x 1, x 2, eq_ix3 x⟩
    refine (scale2_apply _ _ _ _).trans (Eq.symm (if_pos ?_))
    simp at h0 ⊢
    omega

end Cert.KernelIdeal.Gen
end
-- ==== Proof.KernelIdealResult.lean ====
/- What @main of the kernel leaves in its result buffers, as the functions of indices of `Spec`: the host's reshapes and
   transposition read at an index, and the three calls' values put together. -/
module

public import proofs.«01_k».proof.Proof.Spec
public import proofs.«01_k».proof.Proof.Value0
public import proofs.«01_k».proof.Proof.Value1
public import proofs.«01_k».proof.Proof.Value2
public import proofs.«01_k».proof.Proof.KernelIdealRun
public import Idealize.ShloMosaic.Lib.Pointwise

@[expose] public section

set_option maxRecDepth 16384

noncomputable section

namespace Cert.KernelIdeal.Gen

open Idealize.ShloMosaic Idealize.ShloMosaic.TcCoe Idealize.SL.Sem
open Cert.Scale

variable (m : (ℓ : Loc nD τ sig) → Buf (Elt Ideal) ℓ) (ρ : Dev nD → PrngReg)

theorem W1_v0 (c : Dev nD) : W1 m ρ c (Proc.devRef .tc main_v0)
    = (shapeCast S9216x16384 (m ((c : Thread nD τ).loc main_arg0) : Vec Ideal S6x1536x16384 .bf16) shapeCasts_S6x1536x16384_S9216x16384 : Vec Ideal S9216x16384 .bf16) := by
  show StableHlo.after hostOps0 (W0 m ρ c) _ = _
  after_results_simp
  rfl
theorem W1_v1 (c : Dev nD) : W1 m ρ c (Proc.devRef .tc main_v1)
    = (transpose S2x16384x6144 [1, 0, 2] (m ((c : Thread nD τ).loc main_arg1) : Vec Ideal S16384x2x6144 .fp8e4m3) transposes_S16384x2x6144_S2x16384x6144_1_0_2 : Vec Ideal S2x16384x6144 .fp8e4m3) := by
  show StableHlo.after hostOps0 (W0 m ρ c) _ = _
  after_results_simp
theorem W5_v5 (c : Dev nD) : W5 m ρ c (Proc.devRef .tc main_v5)
    = (shapeCast S6x1536x6144 (W4 m ρ c (Proc.devRef .tc main_v4_0) : Vec Ideal S9216x6144 .fp8e4m3) shapeCasts_S9216x6144_S6x1536x6144 : Vec Ideal S6x1536x6144 .fp8e4m3) := by
  show StableHlo.after hostOps3 (W4 m ρ c) _ = _
  generalize W4 m ρ c = W
  after_results_simp
  rfl
theorem W5_v7 (c : Dev nD) : W5 m ρ c (Proc.devRef .tc main_v7)
    = (shapeCast S_ (extractStridedSlice S1x1x1 ![0, 0, 0] (W4 m ρ c (Proc.devRef .tc main_v4_1) : Vec Ideal S2x8x128 .f32) slices_S2x8x128_S1x1x1_0_0_0) shapeCasts_S1x1x1_S_ : Vec Ideal S_ .f32) := by
  show StableHlo.after hostOps3 (W4 m ρ c) _ = _
  generalize W4 m ρ c = W
  after_results_simp
  rfl
theorem W5_v9 (c : Dev nD) : W5 m ρ c (Proc.devRef .tc main_v9)
    = (shapeCast S_ (extractStridedSlice S1x1x1 ![1, 0, 0] (W4 m ρ c (Proc.devRef .tc main_v4_1) : Vec Ideal S2x8x128 .f32) slices_S2x8x128_S1x1x1_1_0_0) shapeCasts_S1x1x1_S_ : Vec Ideal S_ .f32) := by
  show StableHlo.after hostOps3 (W4 m ρ c) _ = _
  generalize W4 m ρ c = W
  after_results_simp
  rfl
theorem W5_v10 (c : Dev nD) : W5 m ρ c (Proc.devRef .tc main_v10)
    = (shapeCast S6x1536x16384 (W4 m ρ c (Proc.devRef .tc main_v2_0) : Vec Ideal S9216x16384 .fp8e4m3) shapeCasts_S9216x16384_S6x1536x16384 : Vec Ideal S6x1536x16384 .fp8e4m3) := by
  show StableHlo.after hostOps3 (W4 m ρ c) _ = _
  generalize W4 m ρ c = W
  after_results_simp
  rfl
theorem W5_v11 (c : Dev nD) : W5 m ρ c (Proc.devRef .tc main_v11)
    = (shapeCast S6x1536 (W4 m ρ c (Proc.devRef .tc main_v2_1) : Vec Ideal S9216x1 .f32) shapeCasts_S9216x1_S6x1536 : Vec Ideal S6x1536 .f32) := by
  show StableHlo.after hostOps3 (W4 m ρ c) _ = _
  generalize W4 m ρ c = W
  after_results_simp
  rfl
/-! ## The arguments, and the arrays between the calls, at an index -/

/-- The activations, at an index. -/
def ax (c : Dev nD) (b : Fin 6) (s : Fin 1536) (k : Fin 16384) : EReal :=
  (m ((c : Thread nD τ).loc main_arg0) : Vec Ideal S6x1536x16384 .bf16) (ix3 b s k)
/-- The weights' codes, at an index. -/
def aw (c : Dev nD) (k : Fin 16384) (g : Fin 2) (f : Fin 6144) : EReal :=
  (m ((c : Thread nD τ).loc main_arg1) : Vec Ideal S16384x2x6144 .fp8e4m3) (ix3 k g f)
/-- The weights' scales, at an index. -/
def at' (c : Dev nD) (g : Fin 2) (f : Fin 6144) : EReal :=
  (m ((c : Thread nD τ).loc main_arg2) : Vec Ideal S2x6144 .f32) (ix2 g f)

/-- Row `(b, s)` of the batch, in the flattened array. -/
def rowOf (b : Fin 6) (s : Fin 1536) : Fin 9216 := ⟨b.val * 1536 + s.val, by omega⟩

theorem exists_rowOf (r : Fin 9216) : ∃ b s, r = rowOf b s :=
  ⟨⟨r.val / 1536, by omega⟩, ⟨r.val % 1536, by omega⟩, Fin.ext (by show r.val = r.val / 1536 * 1536 + r.val % 1536; omega)⟩

theorem flat_apply (a : Vec Ideal S6x1536x16384 .bf16) (b : Fin 6) (s : Fin 1536) (k : Fin 16384) :
    shapeCast S9216x16384 a shapeCasts_S6x1536x16384_S9216x16384 (ix2 (rowOf b s) k) = a (ix3 b s k) := by
  have h : a = shapeCast S6x1536x16384 (shapeCast S9216x16384 a shapeCasts_S6x1536x16384_S9216x16384)
      shapeCasts_S9216x16384_S6x1536x16384 := by rw [shapeCast_comp, shapeCast_id]
  refine Eq.trans ?_ (congrFun h (ix3 b s k)).symm
  generalize (shapeCast S9216x16384 a shapeCasts_S6x1536x16384_S9216x16384 : Vec Ideal S9216x16384 .bf16) = z
  unfold rowOf
  pointwise

theorem X0_apply (c : Dev nD) (b : Fin 6) (s : Fin 1536) (k : Fin 16384) :
    X0 (V1 m ρ) c (ix2 (rowOf b s) k) = ax m c b s k :=
  (congrFun (W1_v0 m ρ c) _).trans (flat_apply _ b s k)

theorem XC1_eq (c : Dev nD) : XC1 (V2 m ρ) c = codes0 (X0 (V1 m ρ) c) := (W2_arr m ρ c 1).trans (arr0_1 _ c)
theorem XS1_eq (c : Dev nD) : XS1 (V2 m ρ) c = scales0 (X0 (V1 m ρ) c) := (W2_arr m ρ c 2).trans (arr0_2 _ c)

theorem XC1_apply (c : Dev nD) (b : Fin 6) (s : Fin 1536) (k : Fin 16384) :
    XC1 (V2 m ρ) c (ix2 (rowOf b s) k) = xcode (ax m c) b s k := by
  rw [XC1_eq]
  simp only [codes0, ix2_0, X0_apply, xcode]

theorem XS1_apply (c : Dev nD) (b : Fin 6) (s : Fin 1536) : XS1 (V2 m ρ) c (ix2 (rowOf b s) 0) = xscale (ax m c) b s := by
  rw [XS1_eq]
  simp only [scales0, ix2_0, X0_apply, xscale]

theorem WC1_apply (c : Dev nD) (g : Fin 2) (k : Fin 16384) (f : Fin 6144) :
    WC1 (V2 m ρ) c (ix3 g k f) = aw m c k g f := by
  unfold aw
  refine (congrFun ((W2_of m ρ c main_v1 (by decide +kernel)).trans (W1_v1 m ρ c)) _).trans ?_
  generalize (m ((c : Thread nD τ).loc main_arg1) : Vec Ideal S16384x2x6144 .fp8e4m3) = a
  pointwise

theorem WS1_apply (c : Dev nD) (g : Fin 2) (f : Fin 6144) : WS1 (V2 m ρ) c (ix2 g f) = at' m c g f := by
  unfold at'
  exact congrFun (W2_args m ρ c main_arg2 (by decide +kernel)) _

theorem gated_eq (c : Dev nD) (b : Fin 6) (s : Fin 1536) (f : Fin 6144) :
    gated1 (XC1 (V2 m ρ) c) (XS1 (V2 m ρ) c) (WC1 (V2 m ρ) c) (WS1 (V2 m ρ) c) (ix2 (rowOf b s) f)
      = yval (ax m c) (aw m c) (at' m c) b s f := by
  rw [gated1_apply]
  simp only [XC1_apply, XS1_apply, WC1_apply, WS1_apply, yval, proj]

theorem Y2_apply (c : Dev nD) (b : Fin 6) (s : Fin 1536) (f : Fin 6144) :
    Y2 (V3 m ρ) c (ix2 (rowOf b s) f) = yval (ax m c) (aw m c) (at' m c) b s f :=
  (congrFun ((W3_arr m ρ c 4).trans (arr1_4 _ c)) _).trans (gated_eq m ρ c b s f)

theorem M2_eq (c : Dev nD) : M2 (V3 m ρ) c = (outsAt1 (V2 m ρ) c last1.val last1.isLt).2 :=
  (W3_arr m ρ c 5).trans (arr1_5 _ c)

theorem top2_le (v : Vec Ideal S8x128 .f32) (z : EReal) : top2 v ≤ z ↔ ∀ r k, v (ix2 r k) ≤ z := by
  unfold top2
  rw [Finset.fold_max_le, ofBits_ninf]
  simp only [bot_le, true_and, Finset.mem_univ, forall_true_left]
  exact ⟨fun H r k => H (r, k), fun H i => H i.1 i.2⟩

/-- The running maximum that call 1 leaves is the greatest magnitude. -/
theorem top2_eq (c : Dev nD) : top2 (M2 (V3 m ρ) c) = ymag (ax m c) (aw m c) (at' m c) := by
  refine eq_of_le_iff fun z => ?_
  rw [top2_le, M2_eq, arr1_5_le, ymag_le]
  constructor
  · intro H b s f
    have h := H (rowOf b s) f
    rw [gated_eq] at h
    exact h
  · intro H r f
    obtain ⟨b, s, rfl⟩ := exists_rowOf r
    rw [gated_eq]
    exact H b s f

/-! ## The results -/

theorem res_y (c : Dev nD) : W5 m ρ c (Proc.devRef .tc main_v5)
    = (fun i => ycode (ax m c) (aw m c) (at' m c) (i 0) (i 1) (i 2) : Vec Ideal S6x1536x6144 .fp8e4m3) := by
  refine (W5_v5 m ρ c).trans (funext fun i => ?_)
  obtain ⟨b, s, f, rfl⟩ : ∃ (b : Fin 6) (s : Fin 1536) (f : Fin 6144), i = ix3 b s f := ⟨i 0, i 1, i 2, eq_ix3 i⟩
  have h : (W4 m ρ c (Proc.devRef .tc main_v4_0) : Vec Ideal S9216x6144 .fp8e4m3) (ix2 (rowOf b s) f)
      = ycode (ax m c) (aw m c) (at' m c) b s f := by
    refine (congrFun ((W4_arr m ρ c 2).trans (arr2_2 _ c)) _).trans ?_
    simp only [top2_eq, Y2_apply, ycode]
  refine Eq.trans ?_ h
  generalize (W4 m ρ c (Proc.devRef .tc main_v4_0) : Vec Ideal S9216x6144 .fp8e4m3) = a
  unfold rowOf
  pointwise

theorem res_ys (c : Dev nD) : W5 m ρ c (Proc.devRef .tc main_v7)
    = (fun _ => sc (ymag (ax m c) (aw m c) (at' m c)) : Vec Ideal S_ .f32) := by
  refine (W5_v7 m ρ c).trans (funext fun i => ?_)
  have h : (W4 m ρ c (Proc.devRef .tc main_v4_1) : Vec Ideal S2x8x128 .f32) (ix3 0 0 0)
      = sc (ymag (ax m c) (aw m c) (at' m c)) := by
    refine (congrFun ((W4_arr m ρ c 3).trans (arr2_3 _ c)) _).trans ?_
    simp only [top2_eq]
    exact if_pos rfl
  refine Eq.trans ?_ h
  generalize (W4 m ρ c (Proc.devRef .tc main_v4_1) : Vec Ideal S2x8x128 .f32) = a
  pointwise

theorem res_ya (c : Dev nD) : W5 m ρ c (Proc.devRef .tc main_v9)
    = (fun _ => ymag (ax m c) (aw m c) (at' m c) : Vec Ideal S_ .f32) := by
  refine (W5_v9 m ρ c).trans (funext fun i => ?_)
  have h : (W4 m ρ c (Proc.devRef .tc main_v4_1) : Vec Ideal S2x8x128 .f32) (ix3 1 0 0)
      = ymag (ax m c) (aw m c) (at' m c) := by
    refine (congrFun ((W4_arr m ρ c 3).trans (arr2_3 _ c)) _).trans ?_
    simp only [top2_eq]
    exact if_neg (by decide)
  refine Eq.trans ?_ h
  generalize (W4 m ρ c (Proc.devRef .tc main_v4_1) : Vec Ideal S2x8x128 .f32) = a
  pointwise

theorem res_x (c : Dev nD) : W5 m ρ c (Proc.devRef .tc main_v10)
    = (fun i => xcode (ax m c) (i 0) (i 1) (i 2) : Vec Ideal S6x1536x16384 .fp8e4m3) := by
  refine (W5_v10 m ρ c).trans (funext fun i => ?_)
  obtain ⟨b, s, k, rfl⟩ : ∃ (b : Fin 6) (s : Fin 1536) (k : Fin 16384), i = ix3 b s k := ⟨i 0, i 1, i 2, eq_ix3 i⟩
  have h : (W4 m ρ c (Proc.devRef .tc main_v2_0) : Vec Ideal S9216x16384 .fp8e4m3) (ix2 (rowOf b s) k) = xcode (ax m c) b s k :=
    (congrFun ((W4_of m ρ c main_v2_0 (by decide +kernel)).trans (W3_of m ρ c main_v2_0 (by decide +kernel))) _).trans
      (XC1_apply m ρ c b s k)
  refine Eq.trans ?_ h
  generalize (W4 m ρ c (Proc.devRef .tc main_v2_0) : Vec Ideal S9216x16384 .fp8e4m3) = a
  unfold rowOf
  pointwise

theorem res_xs (c : Dev nD) : W5 m ρ c (Proc.devRef .tc main_v11)
    = (fun i => xscale (ax m c) (i 0) (i 1) : Vec Ideal S6x1536 .f32) := by
  refine (W5_v11 m ρ c).trans (funext fun i => ?_)
  obtain ⟨b, s, rfl⟩ : ∃ (b : Fin 6) (s : Fin 1536), i = ix2 b s := ⟨i 0, i 1, eq_ix2 i⟩
  have h : (W4 m ρ c (Proc.devRef .tc main_v2_1) : Vec Ideal S9216x1 .f32) (ix2 (rowOf b s) 0) = xscale (ax m c) b s :=
    (congrFun ((W4_of m ρ c main_v2_1 (by decide +kernel)).trans (W3_of m ρ c main_v2_1 (by decide +kernel))) _).trans
      (XS1_apply m ρ c b s)
  refine Eq.trans ?_ h
  generalize (W4 m ρ c (Proc.devRef .tc main_v2_1) : Vec Ideal S9216x1 .f32) = a
  unfold rowOf
  pointwise

/-- Every run of the kernel ends with its results at the functions of `Spec` and its arguments as they were. -/
theorem result : θ_run defs (onTc (τ := τ) (main (F := Ideal))) ⟨m, fun _ => 0, ρ⟩ (fun r => ∀ c : Dev nD,
      r.2.mem ((c.tc : Thread nD τ).loc main_v5)
        = (fun i => ycode (ax m c) (aw m c) (at' m c) (i 0) (i 1) (i 2) : Vec Ideal S6x1536x6144 .fp8e4m3)
      ∧ r.2.mem ((c.tc : Thread nD τ).loc main_v7) = (fun _ => sc (ymag (ax m c) (aw m c) (at' m c)) : Vec Ideal S_ .f32)
      ∧ r.2.mem ((c.tc : Thread nD τ).loc main_v9) = (fun _ => ymag (ax m c) (aw m c) (at' m c) : Vec Ideal S_ .f32)
      ∧ r.2.mem ((c.tc : Thread nD τ).loc main_v10)
        = (fun i => xcode (ax m c) (i 0) (i 1) (i 2) : Vec Ideal S6x1536x16384 .fp8e4m3)
      ∧ r.2.mem ((c.tc : Thread nD τ).loc main_v11) = (fun i => xscale (ax m c) (i 0) (i 1) : Vec Ideal S6x1536 .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
      ⟨(h.1 c _ (mem_uc main_v5 (by decide))).trans (res_y m ρ c),
       (h.1 c _ (mem_uc main_v7 (by decide))).trans (res_ys m ρ c),
       (h.1 c _ (mem_uc main_v9 (by decide))).trans (res_ya m ρ c),
       (h.1 c _ (mem_uc main_v10 (by decide))).trans (res_x m ρ c),
       (h.1 c _ (mem_uc main_v11 (by decide))).trans (res_xs m ρ c),
       (h.1 c _ (mem_uc main_arg0 (by decide))).trans (W5_main_arg0 m ρ c),
       (h.1 c _ (mem_uc main_arg1 (by decide))).trans (W5_main_arg1 m ρ c),
       (h.1 c _ (mem_uc main_arg2 (by decide))).trans (W5_main_arg2 m ρ c)⟩) (run m ρ)

end Cert.KernelIdeal.Gen
end
-- ==== Proof.RefPayload.lean ====
/- The reference's stored values at an index: the exponent of the scale by logarithm and floor, the codes, the scales, the
   gated product and its greatest magnitude. -/
module

public import proofs.«01_k».proof.Proof.Spec
public import proofs.«01_k».proof.Proof.Gen.ReferenceIdeal.Skeleton
public import Idealize.ShloMosaic.Lib.Pointwise

@[expose] public section

set_option maxRecDepth 16384

noncomputable section

namespace Cert.ReferenceIdeal.Gen

open Idealize.ShloMosaic Idealize.ShloMosaic.TcCoe
open Cert.Scale

/-- The exponent of every entry's scale. -/
def vexpo {s : Shape} (v4 : FVec Ideal s .f32) : FVec Ideal s .f32 :=
  have v6 : FVec Ideal s .f32 := mulf v4 (broadcast s (Scalar.ofBits .f32 0x3B124925#32))
  select (cmpf .oeq v4 (broadcast s (Scalar.ofBits .f32 0x00000000#32))) (broadcast s (Scalar.ofBits .f32 0x00000000#32))
    (select (andi (cmpf .oge v6 (broadcast s (Scalar.ofBits .f32 0x00800000#32))) (cmpf .olt v6 (broadcast s (Scalar.ofBits .f32 0x7E800000#32))))
      (addf (floor (divf (log v6) (broadcast s (Scalar.log (Scalar.ofBits .f32 0x40000000#32))))) (broadcast s (Scalar.ofBits .f32 0x3F800000#32)))
      (broadcast s (Scalar.ofBits .f32 0x00000000#32)))

theorem vexpo_apply {s : Shape} (v : FVec Ideal s .f32) (j : s.Idx) : vexpo v j = refE (v j) := rfl

theorem exp2_eq (z : EReal) : FloatOps.exp2 (F := Ideal) (φ := .f32) z = Ideal.exp2 z := rfl

/-- The greatest magnitude of every row. -/
def rowmag (v0 : Vec Ideal S6x1536x16384 .bf16) : FVec Ideal S6x1536x1 .f32 :=
  shapeCast S6x1536x1 (multiReduction .maximumf [2] S6x1536 (absf (k0_pay2 v0)) 0xFF800000#32 reduces_S6x1536x16384_S6x1536 (.inl rfl) rfl)
    shapeCasts_S6x1536_S6x1536x1

theorem rowmag_apply (v0 : Vec Ideal S6x1536x16384 .bf16) (b : Fin 6) (s : Fin 1536) (u : Fin 1) :
    rowmag v0 (ix3 b s u) = mag fun k : Fin 16384 => v0 (ix3 b s k) := by
  unfold mag rowmag
  pointwise [k0_pay2]
  rfl

theorem k0_pay3_eq (v0 : Vec Ideal S6x1536x16384 .bf16) : k0_pay3 v0 = vexpo (rowmag v0) := by
  have h : k0_pay3 v0 = (fun a => vexpo a) (rowmag v0) := by
    unfold k0_pay3 rowmag
    simp only [vexpo]
  exact h

theorem k0_pay3_apply (v0 : Vec Ideal S6x1536x16384 .bf16) (b : Fin 6) (s : Fin 1536) (u : Fin 1) :
    k0_pay3 v0 (ix3 b s u) = refE (mag fun k : Fin 16384 => v0 (ix3 b s k)) := by
  rw [k0_pay3_eq, vexpo_apply, rowmag_apply]

theorem codes_of (v1 : FVec Ideal S6x1536x16384 .f32) (e : FVec Ideal S6x1536x1 .f32) (b : Fin 6) (s : Fin 1536) (k : Fin 16384) :
    (truncf .fp8e4m3 (minimumf (broadcast S6x1536x16384 (Scalar.ofBits .f32 0x43E00000#32))
      (maximumf (broadcast S6x1536x16384 (Scalar.ofBits .f32 0xC3E00000#32))
        (mulf v1 (broadcastTo S6x1536x16384 (exp2 (subf (broadcast S6x1536x1 (Scalar.ofBits .f32 0x00000000#32)) e))
          broadcasts_S6x1536x1_S6x1536x16384)))) bitsLt_fp8e4m3_f32 : FVec Ideal S6x1536x16384 .fp8e4m3) (ix3 b s k)
    = clip (v1 (ix3 b s k) * Ideal.exp2 (Ideal.ofBits .f32 0x00000000#32 - e (ix3 b s 0))) := by
  unfold clip
  pointwise
  simp only [exp2_eq]

theorem k0_pay4_apply (v0 : Vec Ideal S6x1536x16384 .bf16) (b : Fin 6) (s : Fin 1536) (k : Fin 16384) :
    k0_pay4 v0 (ix3 b s k) = xcode (fun b s k => v0 (ix3 b s k)) b s k := by
  unfold xcode
  rw [← ref_iv, ← k0_pay3_apply v0 b s 0]
  have h := codes_of (k0_pay2 v0) (k0_pay3 v0) b s k
  unfold k0_pay4
  exact h

theorem scales_of (e : FVec Ideal S6x1536x1 .f32) (b : Fin 6) (s : Fin 1536) :
    (shapeCast S6x1536 (exp2 e) shapeCasts_S6x1536x1_S6x1536 : FVec Ideal S6x1536 .f32) (ix2 b s) = Ideal.exp2 (e (ix3 b s 0)) := by
  pointwise
  simp only [exp2_eq]

theorem k0_pay5_apply (v0 : Vec Ideal S6x1536x16384 .bf16) (b : Fin 6) (s : Fin 1536) :
    k0_pay5 v0 (ix2 b s) = xscale (fun b s k => v0 (ix3 b s k)) b s := by
  unfold xscale
  rw [← ref_sc, ← k0_pay3_apply v0 b s 0]
  have h := scales_of (k0_pay3 v0) b s
  unfold k0_pay5
  exact h

theorem k0_pay6_apply (v35 : FVec Ideal S6x1536x16384 .fp8e4m3) (v37 : FVec Ideal S6x1536 .f32)
    (v39 : Vec Ideal S16384x2x6144 .fp8e4m3) (v44 : Vec Ideal S2x6144 .f32) (b : Fin 6) (s : Fin 1536) (f : Fin 6144) :
    k0_pay6 v35 v37 v39 v44 (ix3 b s f) = gate
      ((∑ k : Fin 16384, v35 (ix3 b s k) * v39 (ix3 k 0 f)) * v37 (ix2 b s) * v44 (ix2 0 f))
      ((∑ k : Fin 16384, v35 (ix3 b s k) * v39 (ix3 k 1 f)) * v37 (ix2 b s) * v44 (ix2 1 f)) := by
  unfold gate
  pointwise [k0_pay6]

theorem absf_eq (z : EReal) : FloatOps.absf (F := Ideal) (φ := .f32) z = max z (-z) := rfl

/-- The greatest magnitude of the gated product is bounded exactly where every magnitude is. -/
theorem k0_pay7_le (v35 : FVec Ideal S6x1536x16384 .fp8e4m3) (v37 : FVec Ideal S6x1536 .f32)
    (v39 : Vec Ideal S16384x2x6144 .fp8e4m3) (v44 : Vec Ideal S2x6144 .f32) (u v w : Fin 1) (z : EReal) :
    k0_pay7 v35 v37 v39 v44 (ix3 u v w) ≤ z ↔ ∀ b s f,
      max (k0_pay6 v35 v37 v39 v44 (ix3 b s f)) (-(k0_pay6 v35 v37 v39 v44 (ix3 b s f))) ≤ z := by
  unfold k0_pay7
  generalize k0_pay6 v35 v37 v39 v44 = y
  refine Iff.trans (b := ∀ x : S1x6x1536x6144.Idx, max (y (ix3 (x 1) (x 2) (x 3))) (-(y (ix3 (x 1) (x 2) (x 3)))) ≤ z) ?_ ?_
  · pointwise
    rw [Finset.fold_max_le, ofBits_ninf]
    simp only [bot_le, true_and, Finset.mem_filter, Finset.mem_univ, absf_eq]
    refine forall_congr' fun x => ⟨fun H => H ?_, fun H _ => H⟩
    exact funext fun a => by
      fin_cases a
      exact Subsingleton.elim (α := Fin 1) _ _
  · exact ⟨fun H b s f => H (ix4 0 b s f), fun H x => H _ _ _⟩

theorem k0_pay8_eq (v35 : FVec Ideal S6x1536x16384 .fp8e4m3) (v37 : FVec Ideal S6x1536 .f32)
    (v39 : Vec Ideal S16384x2x6144 .fp8e4m3) (v44 : Vec Ideal S2x6144 .f32) :
    k0_pay8 v35 v37 v39 v44 = vexpo (k0_pay7 v35 v37 v39 v44) := by
  unfold k0_pay8
  generalize k0_pay7 v35 v37 v39 v44 = a
  simp only [vexpo]

theorem exp2_at {s : Shape} (e : FVec Ideal s .f32) (j : s.Idx) : exp2 e j = Ideal.exp2 (e j) := rfl

theorem k0_pay9_apply (v35 : FVec Ideal S6x1536x16384 .fp8e4m3) (v37 : FVec Ideal S6x1536 .f32)
    (v39 : Vec Ideal S16384x2x6144 .fp8e4m3) (v44 : Vec Ideal S2x6144 .f32) (j : S1x1x1.Idx) :
    k0_pay9 v35 v37 v39 v44 j = sc (k0_pay7 v35 v37 v39 v44 j) := by
  have h : k0_pay9 v35 v37 v39 v44 = exp2 (vexpo (k0_pay7 v35 v37 v39 v44)) := by
    rw [← k0_pay8_eq]
    simp only [k0_pay9]
  generalize k0_pay7 v35 v37 v39 v44 = a at h ⊢
  rw [h, exp2_at, vexpo_apply, ref_sc]

theorem ycodes_of (y : FVec Ideal S6x1536x6144 .f32) (e : FVec Ideal S1x1x1 .f32) (b : Fin 6) (s : Fin 1536) (f : Fin 6144) :
    k0_pay1 y e (Scalar.ofBits .f32 0x00000000#32) (ix3 b s f)
      = clip (y (ix3 b s f) * Ideal.exp2 (Ideal.ofBits .f32 0x00000000#32 - e (ix3 0 0 0))) := by
  unfold clip
  pointwise [k0_pay1]
  simp only [exp2_eq]

theorem k0_pay1_apply (v35 : FVec Ideal S6x1536x16384 .fp8e4m3) (v37 : FVec Ideal S6x1536 .f32)
    (v39 : Vec Ideal S16384x2x6144 .fp8e4m3) (v44 : Vec Ideal S2x6144 .f32) (b : Fin 6) (s : Fin 1536) (f : Fin 6144) :
    k0_pay1 (k0_pay6 v35 v37 v39 v44) (k0_pay8 v35 v37 v39 v44) (Scalar.ofBits .f32 0x00000000#32) (ix3 b s f)
      = clip (k0_pay6 v35 v37 v39 v44 (ix3 b s f) * iv (k0_pay7 v35 v37 v39 v44 (ix3 0 0 0))) := by
  rw [ycodes_of, k0_pay8_eq, vexpo_apply, ref_iv]

end Cert.ReferenceIdeal.Gen
end
-- ==== Proof.RefResult.lean ====
/- What @main of the reference leaves in its result buffers, as the functions of indices of `Spec`. -/
module

public import proofs.«01_k».proof.Proof.RefPayload
public import proofs.«01_k».proof.Proof.Gen.ReferenceIdeal.Frame
public import Idealize.ShloMosaic.Lib.Pointwise
public import Idealize.ShloMosaic.Lib.Pipeline.ValueKit

@[expose] public section

set_option maxRecDepth 16384

noncomputable section

namespace Cert.ReferenceIdeal.Gen

open Idealize.ShloMosaic Idealize.ShloMosaic.TcCoe Idealize.SL.Sem
open Cert.Scale

/-! ## The body's values, from whole arrays -/

section Values

variable (x0 : Vec Ideal S6x1536x16384 .bf16) (x1 : Vec Ideal S16384x2x6144 .fp8e4m3) (x2 : Vec Ideal S2x6144 .f32)

/-- The activations at an index. -/
def fx (b : Fin 6) (s : Fin 1536) (k : Fin 16384) : EReal := x0 (ix3 b s k)
/-- The weights' codes at an index. -/
def fw (k : Fin 16384) (g : Fin 2) (f : Fin 6144) : EReal := x1 (ix3 k g f)
/-- The weights' scales at an index. -/
def ft (g : Fin 2) (f : Fin 6144) : EReal := x2 (ix2 g f)

theorem codes_eq (b : Fin 6) (s : Fin 1536) (k : Fin 16384) : k0_pay4 x0 (ix3 b s k) = xcode (fx x0) b s k :=
  k0_pay4_apply x0 b s k
theorem scales_eq (b : Fin 6) (s : Fin 1536) : k0_pay5 x0 (ix2 b s) = xscale (fx x0) b s := k0_pay5_apply x0 b s

theorem y_eq (b : Fin 6) (s : Fin 1536) (f : Fin 6144) :
    k0_pay6 (k0_pay4 x0) (k0_pay5 x0) x1 x2 (ix3 b s f) = yval (fx x0) (fw x1) (ft x2) b s f := by
  rw [k0_pay6_apply]
  simp only [codes_eq, scales_eq, yval, proj, fw, ft]

theorem mag_eq (u v w : Fin 1) :
    k0_pay7 (k0_pay4 x0) (k0_pay5 x0) x1 x2 (ix3 u v w) = ymag (fx x0) (fw x1) (ft x2) := by
  refine eq_of_le_iff fun z => ?_
  rw [k0_pay7_le, ymag_le]
  simp only [y_eq]

theorem yscale_eq (u v w : Fin 1) :
    k0_pay9 (k0_pay4 x0) (k0_pay5 x0) x1 x2 (ix3 u v w) = sc (ymag (fx x0) (fw x1) (ft x2)) := by
  rw [k0_pay9_apply, mag_eq]

theorem ycodes_eq (b : Fin 6) (s : Fin 1536) (f : Fin 6144) :
    k0_pay1 (k0_pay6 (k0_pay4 x0) (k0_pay5 x0) x1 x2) (k0_pay8 (k0_pay4 x0) (k0_pay5 x0) x1 x2)
      (Scalar.ofBits .f32 0x00000000#32) (ix3 b s f) = ycode (fx x0) (fw x1) (ft x2) b s f := by
  rw [k0_pay1_apply, mag_eq, y_eq, ycode]

end Values

/-! ## The arrays after the call -/

variable (m : (ℓ : Loc nD τ sig) → Buf (Elt Ideal) ℓ) (ρ : Dev nD → PrngReg)

/-- The reference's activations. -/
def rx (c : Dev nD) : Vec Ideal S6x1536x16384 .bf16 := m ((c : Thread nD τ).loc main_arg0)
/-- The reference's weight codes. -/
def rw' (c : Dev nD) : Vec Ideal S16384x2x6144 .fp8e4m3 := m ((c : Thread nD τ).loc main_arg1)
/-- The reference's weight scales. -/
def rt (c : Dev nD) : Vec Ideal S2x6144 .f32 := m ((c : Thread nD τ).loc main_arg2)

theorem idx_0 : ∀ t, win0_0.index t = ![0, 0, 0] := by decide +kernel
theorem idx_1 : ∀ t, win0_1.index t = ![0, 0, 0] := by decide +kernel
theorem idx_2 : ∀ t, win0_2.index t = ![0, 0] := by decide +kernel
theorem idx_3 : ∀ t, win0_3.index t = ![0, 0, 0] := by decide +kernel
theorem idx_4 : ∀ t, win0_4.index t = ![0, 0, 0] := by decide +kernel
theorem idx_5 : ∀ t, win0_5.index t = ![0, 0, 0] := by decide +kernel
theorem idx_6 : ∀ t, win0_6.index t = ![0, 0, 0] := by decide +kernel
theorem idx_7 : ∀ t, win0_7.index t = ![0, 0] := by decide +kernel

theorem iblk_0 (c : Dev nD) (t : Fin cfg0.N) : iblk m c 0 t = rx m c := by
  unfold rx
  blk_ext! [iblk, idx_0 t]
theorem iblk_1 (c : Dev nD) (t : Fin cfg0.N) : iblk m c 1 t = rw' m c := by
  unfold rw'
  blk_ext! [iblk, idx_1 t]
theorem iblk_2 (c : Dev nD) (t : Fin cfg0.N) : iblk m c 2 t = rt m c := by
  unfold rt
  blk_ext! [iblk, idx_2 t]

theorem arr_3 (c : Dev nD) : (dats m 0 c).arrAt 3 cfg0.N
    = (fun i => ycode (fx (rx m c)) (fw (rw' m c)) (ft (rt m c)) (i 0) (i 1) (i 2) : Vec Ideal S6x1536x6144 .fp8e4m3) := by
  refine (dats m 0 c).arrAt_eq_of_covers 3 _ (by decide +kernel) fun t hf y => ?_
  blk_simp
  rw [after0_3]
  unfold out0_3 k0_pay10 k0_pay11
  frame_out
  obtain ⟨b, s, k, rfl⟩ : ∃ (b : Fin 6) (s : Fin 1536) (k : Fin 6144), y = ix3 b s k := ⟨y 0, y 1, y 2, eq_ix3 y⟩
  have e : ((View.whole main_v0_0).slice (win0_3.rect t)).emb (ix3 b s k) = (ix3 b s k : S6x1536x6144.Idx) := by
    blk_ext [idx_3 t]
  rw [e]
  rw [iblk_0, iblk_1, iblk_2]
  exact ycodes_eq _ _ _ b s k

theorem arr_4 (c : Dev nD) : (dats m 0 c).arrAt 4 cfg0.N
    = (fun _ => sc (ymag (fx (rx m c)) (fw (rw' m c)) (ft (rt m c))) : Vec Ideal S1x1x1 .f32) := by
  refine (dats m 0 c).arrAt_eq_of_covers 4 _ (by decide +kernel) fun t hf y => ?_
  blk_simp
  rw [after0_4]
  unfold out0_4 k0_pay10 k0_pay11
  frame_out
  obtain ⟨b, s, k, rfl⟩ : ∃ (b s k : Fin 1), y = ix3 b s k := ⟨y 0, y 1, y 2, eq_ix3 y⟩
  rw [iblk_0, iblk_1, iblk_2]
  exact yscale_eq _ _ _ b s k

theorem arr_5 (c : Dev nD) : (dats m 0 c).arrAt 5 cfg0.N
    = (fun _ => ymag (fx (rx m c)) (fw (rw' m c)) (ft (rt m c)) : Vec Ideal S1x1x1 .f32) := by
  refine (dats m 0 c).arrAt_eq_of_covers 5 _ (by decide +kernel) fun t hf y => ?_
  blk_simp
  rw [after0_5]
  unfold out0_5 k0_pay10 k0_pay11
  frame_out
  obtain ⟨b, s, k, rfl⟩ : ∃ (b s k : Fin 1), y = ix3 b s k := ⟨y 0, y 1, y 2, eq_ix3 y⟩
  rw [iblk_0, iblk_1, iblk_2]
  exact mag_eq _ _ _ b s k

theorem arr_6 (c : Dev nD) : (dats m 0 c).arrAt 6 cfg0.N
    = (fun i => xcode (fx (rx m c)) (i 0) (i 1) (i 2) : Vec Ideal S6x1536x16384 .fp8e4m3) := by
  refine (dats m 0 c).arrAt_eq_of_covers 6 _ (by decide +kernel) fun t hf y => ?_
  blk_simp
  rw [after0_6]
  unfold out0_6
  frame_out
  obtain ⟨b, s, k, rfl⟩ : ∃ (b : Fin 6) (s : Fin 1536) (k : Fin 16384), y = ix3 b s k := ⟨y 0, y 1, y 2, eq_ix3 y⟩
  have e : ((View.whole main_v0_3).slice (win0_6.rect t)).emb (ix3 b s k) = (ix3 b s k : S6x1536x16384.Idx) := by
    blk_ext [idx_6 t]
  rw [e]
  rw [iblk_0]
  exact codes_eq _ b s k

theorem arr_7 (c : Dev nD) : (dats m 0 c).arrAt 7 cfg0.N
    = (fun i => xscale (fx (rx m c)) (i 0) (i 1) : Vec Ideal S6x1536 .f32) := by
  refine (dats m 0 c).arrAt_eq_of_covers 7 _ (by decide +kernel) fun t hf y => ?_
  blk_simp
  rw [after0_7]
  unfold out0_7 k0_pay11
  frame_out
  obtain ⟨b, s, rfl⟩ : ∃ (b : Fin 6) (s : Fin 1536), y = ix2 b s := ⟨y 0, y 1, eq_ix2 y⟩
  have e : ((View.whole main_v0_4).slice (win0_7.rect t)).emb (ix2 b s) = (ix2 b s : S6x1536.Idx) := by
    blk_ext [idx_7 t]
  rw [e]
  rw [iblk_0]
  exact scales_eq _ b s

/-! ## The two reshapes after the call -/

theorem afterTail_v1 (c : Dev nD) : Pipeline.afterTail₀ cfgs (dats m) 0 (V0 m) [hostOps1] c main_v1
    = (shapeCast S_ ((dats m 0 c).arrAt 4 cfg0.N : Vec Ideal S1x1x1 .f32) shapeCasts_S1x1x1_S_ : Vec Ideal S_ .f32) := by
  unfold Pipeline.afterTail₀
  have h := Pipeline.withArrays_arr spec0 launch0.win.arr_inj c (V0 m c) (fun w => (dats m 0 c).arrAt w cfg0.N) 4
  rw [← h]
  generalize Pipeline.withArrays spec0 c (V0 m c) (fun w => (dats m 0 c).arrAt w cfg0.N) = W
  show StableHlo.after hostOps1 W _ = _
  after_results_simp
  rfl

theorem afterTail_v2 (c : Dev nD) : Pipeline.afterTail₀ cfgs (dats m) 0 (V0 m) [hostOps1] c main_v2
    = (shapeCast S_ ((dats m 0 c).arrAt 5 cfg0.N : Vec Ideal S1x1x1 .f32) shapeCasts_S1x1x1_S_ : Vec Ideal S_ .f32) := by
  unfold Pipeline.afterTail₀
  have h := Pipeline.withArrays_arr spec0 launch0.win.arr_inj c (V0 m c) (fun w => (dats m 0 c).arrAt w cfg0.N) 5
  rw [← h]
  generalize Pipeline.withArrays spec0 c (V0 m c) (fun w => (dats m 0 c).arrAt w cfg0.N) = W
  show StableHlo.after hostOps1 W _ = _
  after_results_simp
  rfl

theorem cast_const (z : EReal) : (shapeCast S_ (fun _ => z : Vec Ideal S1x1x1 .f32) shapeCasts_S1x1x1_S_ : Vec Ideal S_ .f32)
    = fun _ => z := rfl

theorem mem_rest_v1 : main_v1 ∈ Pipeline.restRefs sig (cfgs 0).spec := by decide +kernel
theorem mem_rest_v2 : main_v2 ∈ Pipeline.restRefs sig (cfgs 0).spec := by decide +kernel

/-- Every run of the reference ends with its results at the functions of `Spec` and its arguments as they were. -/
theorem result : θ_run defs (onTc (τ := τ) (main (F := Ideal))) ⟨m, fun _ => 0, ρ⟩ (fun r => ∀ c : Dev nD,
      r.2.mem ((c.tc : Thread nD τ).loc main_v0_0)
        = (fun i => ycode (fx (rx m c)) (fw (rw' m c)) (ft (rt m c)) (i 0) (i 1) (i 2) : Vec Ideal S6x1536x6144 .fp8e4m3)
      ∧ r.2.mem ((c.tc : Thread nD τ).loc main_v1) = (fun _ => sc (ymag (fx (rx m c)) (fw (rw' m c)) (ft (rt m c))) : Vec Ideal S_ .f32)
      ∧ r.2.mem ((c.tc : Thread nD τ).loc main_v2) = (fun _ => ymag (fx (rx m c)) (fw (rw' m c)) (ft (rt m c)) : Vec Ideal S_ .f32)
      ∧ r.2.mem ((c.tc : Thread nD τ).loc main_v0_3)
        = (fun i => xcode (fx (rx m c)) (i 0) (i 1) (i 2) : Vec Ideal S6x1536x16384 .fp8e4m3)
      ∧ r.2.mem ((c.tc : Thread nD τ).loc main_v0_4) = (fun i => xscale (fx (rx m c)) (i 0) (i 1) : Vec Ideal S6x1536 .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  refine (θ_run defs _ _).mono (fun r h c => ?_) (run_main m ρ)
  refine ⟨((h c).1 3).trans (arr_3 m c), ?_, ?_, ((h c).1 6).trans (arr_6 m c), ((h c).1 7).trans (arr_7 m c), ?_, ?_, ?_⟩
  · refine ((h c).2 main_v1 mem_rest_v1).trans ((afterTail_v1 m c).trans ?_)
    rw [arr_4, cast_const]
  · refine ((h c).2 main_v2 mem_rest_v2).trans ((afterTail_v2 m c).trans ?_)
    rw [arr_5, cast_const]
  · exact ((h c).1 0).trans (((dats m 0 c).arrAt_in 0 rfl _).trans ((A_eq m c 0).trans (V_main_arg0 m c)))
  · exact ((h c).1 1).trans (((dats m 0 c).arrAt_in 1 rfl _).trans ((A_eq m c 1).trans (V_main_arg1 m c)))
  · exact ((h c).1 2).trans (((dats m 0 c).arrAt_in 2 rfl _).trans ((A_eq m c 2).trans (V_main_arg2 m c)))

end Cert.ReferenceIdeal.Gen
end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Frame
public import proofs.«01_k».proof.Proof.KernelRun
public import proofs.«01_k».proof.Proof.KernelIdealRun
public import proofs.«01_k».proof.Proof.KernelIdealResult
public import proofs.«01_k».proof.Proof.RefResult
public import Idealize.ShloMosaic.Adequacy
public import Idealize.ShloMosaic.Init

@[expose] public section

noncomputable section

namespace Cert.Proof

open Idealize.ShloMosaic Idealize.SL.Sem

open Idealize.ShloMosaic.TcCoe

/-- On equal arguments the kernel and the reference end with equal results: both end with the functions of `Spec`, of the
    activations, the weights' codes and the weights' scales read at an index. -/
theorem algebraic : @Cert.algebraic_KernelIdeal_ReferenceIdeal Cert.KernelIdeal.Gen.facts Cert.ReferenceIdeal.Gen.facts := by
  intro m g m' g' _ hm
  refine ⟨_, _, _, _, _, Cert.KernelIdeal.Gen.result m g, ?_⟩
  have e : ∀ c, Cert.ReferenceIdeal.Gen.fx (Cert.ReferenceIdeal.Gen.rx m' c) = Cert.KernelIdeal.Gen.ax m c
      ∧ Cert.ReferenceIdeal.Gen.fw (Cert.ReferenceIdeal.Gen.rw' m' c) = Cert.KernelIdeal.Gen.aw m c
      ∧ Cert.ReferenceIdeal.Gen.ft (Cert.ReferenceIdeal.Gen.rt m' c) = Cert.KernelIdeal.Gen.at' m c := by
    intro c
    obtain ⟨h0, h1, h2⟩ := hm c
    refine ⟨?_, ?_, ?_⟩
    · funext b s k
      exact congrFun h0 _
    · funext k t f
      exact congrFun h1 _
    · funext t f
      exact congrFun h2 _
  have h := Cert.ReferenceIdeal.Gen.result m' g'
  simp only [fun c => (e c).1, fun c => (e c).2.1, fun c => (e c).2.2] at h
  exact h

theorem claim : Cert.Claim :=
  ⟨Cert.Kernel.Gen.facts, Cert.KernelIdeal.Gen.facts, Cert.ReferenceIdeal.Gen.facts,
    fun m ρ _ => Cert.Kernel.Gen.frame m ρ,
    fun m ρ _ => Cert.KernelIdeal.Gen.frame m ρ,
    fun m ρ _ => Cert.ReferenceIdeal.Gen.frame m ρ,
    trivial,
    algebraic⟩

end Cert.Proof

end
